-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_energies [hPre_energies : Cert.Pre_energies.Facts] (m : (ℓ : Loc Cert.KernelIdeal.nD Cert.KernelIdeal.τ Cert.KernelIdeal.sig) → Buf (Elt Ideal) ℓ) : Prop :=
  ∀ c : Dev Cert.KernelIdeal.nD,
    (Cert.Pre_energies.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_energies [hPre_energies : Cert.Pre_energies.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_energies.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_energies [hKernelIdeal : Cert.KernelIdeal.Facts] [hPre_energies : Cert.Pre_energies.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_energies m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_energies [hReferenceIdeal : Cert.ReferenceIdeal.Facts] [hPre_energies : Cert.Pre_energies.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_energies m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "w1" .f32 0x3E13F529#32 ((491673666618796306473486136333248941413661408841033451496681218922700500864377801673767825300084081922265073736622393453986834734027303562959001700614431336431523844411738258883755396284763045117897294304208702868242823710748212847999250059322861757993863871682681691192044831884528345155509761 / 3402823669209384634633746074317682114560000000000000000000000000000000000000000000000000000000000000000000000000000000000000000000000000000000000000000000000000000000000000000000000000000000000000000000000000000000000000000000000000000000000000000000000000000000000000000000000000000000000000000 : ℝ) : EReal)
  ∧ IdealRules.named_const.Statement Cert.KernelIdeal.κ "w2" .f32 0x3CAB06F1#32 ((241742994446371253405065789807517189865591035885347655406332058621538739238552989695373782994543079622301333951101249389687809621824266261964726153469697860190314370867843475476134875797172305958954652288360666638143211524043664112998604832626359302701387992437123110917138563999643839497326874039229218152054574370517330184229228527949349019216154385218059007995244630999305594599659681209296948087139303106923565402608189710570388267202938385677217071959360651411923928141926792106303000706769117871043434175071927889805858508506031779540482361436540115561176923735390081534375766277121 / 11579208923731619542357098500868790785326998466564056403945758400791312963993600000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)
  ∧ IdealRules.named_const.Statement Cert.KernelIdeal.κ "w4" .f32 0x39E4848B#32 ((58439675363898282666593893456497235820859316980044007385056077120254230848605552768176670039431329489857200805041956109512301721427173661909443716190012982047760200433818545779870959237583636565742791705662068711193081337774340739202139835058032758271831459291894698482196868258144585874223902502978691020480822375719722839471950846137759747206755073213607748304516884490435867784293334400083734042514053937036539979753117532080885377046042855258314711167297101571157685750739265668696580412897224540809152272189762845891475132985725750291728056251295637417955091289766917665671841150974159584471697297755168338415135996450417492557522577628344879381801179500287007797913787967299108654696607880078834378144769132282651931942249004328016428520722310821083759364842813671168885227775495390965831438485282326528483821493472402787603173874886752681392036244645773687526787196844534018248611249092803260934561403599029461074146010125748111498081073962212736175075631288221714138928491808824518419758326110530417664341845799695632542643895081574286465543373419952371201099913752050198897027329349382208512790210168526205698152670439514175840927289693536861620857862249376168048641 / 134078079299425970995740249982058461274793658205923933777235614437217640300735469768018742981669034276900318581864860508537538828119465699464336490060840960000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)
  ∧ IdealRules.named_const.Statement Cert.KernelIdeal.κ "w8" .f32 0x344BFC5C#32 ((3415195656637819876609721108860919884906943909482625327544490885181943324592867745949832272722269585772236205466246984565395168057148628362602096124423245699404679307976639442027023845345648566909792313322837801128564999673049726091275716851531088952107630069823756790401183629866918311916144988378985138923259473978050221173415766145253776334211185792132159606944972850263266092081238941017493421755765665899959356438835250717114289313916515132459052217927904692889932932780731833293070032181208303294392823751356376203425531652165504126498942285205848927845240787860356959056375437068322058551173060235100096836599778171277207452062038789279741315934493021571353736463346866197957006093589829603132155421578487885817823839205218625598259241457391565676001634199595121292462954572859804448484741813236739488361776208572017138975181137397402019042404526824173906670555839166070509864141330022904547503719470421656912231222653759278256575281347147886765362853286426060894569657431181475151201986715910573584733910188630861208292258379226458360640843122887295601625670233140958542845796021567429716041678278905081791877636761312386884551147871734157992588059507517291217168318731941501903989035627100023062259827392883605306388928344800458137054146184815280740988799518718659686916538528326792779415039730691211626321485446410304081310205501908099057347517190417864750902981722821646739048266827484373254783249706214980941721990537423898371374137087387932583078871751709438720771787019817480808268315133756659577223445919444713960163408896301061314798187093638148251999307175692288818144964890700067597524717531729419145941915398837489465962813024061740327867328237407661335843246059881071011419617806733847894527812230189973058449937463086515448219494172354094880955739520043615413246703713950975521319009872904983553656291658410049945580411000479522768695109894671022965142509133445951562767531942022693761115312016586959766683674943282472619595266890945477423052524532528060920453096828445817361882699669608786204188360106560075003726159518799155833459632063181636597617108143497806553001734701227671120443100897490537946307797541842452759508844215663239067534057876751566597417376706122103093875790143889342629956267919369695702650984123052309121155519464725710528867057383772446480837246903910375251057724171238689302030854399721708036377741946881 / 17976931348623159077293051907890247336179769789423065727343008115773267580550096313270847732240753602112011387987139335765878976881441662249284743063947412437776789342486548527630221960124609411945308295208500576883815068234246288147391311054082723716335051068458629823994724593847971630483535632962422413721600000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)

def algebraic_KernelIdeal_ReferenceIdeal_pre_energies [hKernelIdeal : Cert.KernelIdeal.Facts] [hReferenceIdeal : Cert.ReferenceIdeal.Facts] [hPre_energies : Cert.Pre_energies.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_energies m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_energies : Cert.Pre_energies.Facts),
    quiescent_Kernel (hKernel := hKernel)
    ∧ quiescent_KernelIdeal (hKernelIdeal := hKernelIdeal)
    ∧ quiescent_KernelIdeal_pre_energies (hKernelIdeal := hKernelIdeal) (hPre_energies := hPre_energies)
    ∧ quiescent_ReferenceIdeal (hReferenceIdeal := hReferenceIdeal)
    ∧ quiescent_ReferenceIdeal_pre_energies (hReferenceIdeal := hReferenceIdeal) (hPre_energies := hPre_energies)
    ∧ preserves_Kernel_KernelIdeal
    ∧ algebraic_KernelIdeal_ReferenceIdeal_pre_energies (hKernelIdeal := hKernelIdeal) (hReferenceIdeal := hReferenceIdeal) (hPre_energies := hPre_energies)
-- ==== Pre_energies.lean ====
abbrev S64x256x2048x1 : Shape := ⟨4, ![64, 256, 2048, 1]⟩
abbrev S1 : Shape := ⟨1, ![1]⟩
abbrev S_ : Shape := ⟨0, ![]⟩

class Facts : Prop where
  bcast_S_S64x256x2048x1 : S_.BroadcastsInDim S64x256x2048x1 (![] : Fin 0 → Fin S64x256x2048x1.rank)
  reducesTo_S64x256x2048x1_S_d0_1_2_3 : S64x256x2048x1.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S64x256x2048x1 .f32) (main_arg1 : FVec F S1 .f32) (main_arg2 : FVec F S1 .f32) (main_arg3 : FVec F S1 .f32) : IVec S_ 1 :=
  let main_cst : FVec F S_ .f32 := constant S_ .f32 0x00000000#32
  let main_v0 : FVec F S64x256x2048x1 .f32 := broadcastInDim S64x256x2048x1 ![] bcast_S_S64x256x2048x1 main_cst
  let main_v1 : IVec S64x256x2048x1 1 := cmpf .oge main_arg0 main_v0
  let main_cst_0 : FVec F S_ .f32 := constant S_ .f32 0x7F800000#32
  let main_v2 : FVec F S64x256x2048x1 .f32 := broadcastInDim S64x256x2048x1 ![] bcast_S_S64x256x2048x1 main_cst_0
  let main_v3 : IVec S64x256x2048x1 1 := cmpf .olt main_arg0 main_v2
  let main_v4 : IVec S64x256x2048x1 1 := andi main_v1 main_v3
  let main_c : IVec S_ 1 := constantI S_ 1 1#1
  let main_v5 : IVec S_ 1 := (fun x v => Host.reduce IntOp.andi x v reducesTo_S64x256x2048x1_S_d0_1_2_3 h_S_) main_v4 main_c
  let main_cst_1 : FVec F S_ .f32 := constant S_ .f32 0xFF800000#32
  let main_v6 : FVec F S1 .f32 := broadcastInDim S1 ![] bcast_S_S1 main_cst_1
  let main_v7 : IVec S1 1 := cmpf .ogt main_arg1 main_v6
  let main_cst_2 : FVec F S_ .f32 := constant S_ .f32 0x7F800000#32
  let main_v8 : FVec F S1 .f32 := broadcastInDim S1 ![] bcast_S_S1 main_cst_2
  let main_v9 : IVec S1 1 := cmpf .olt main_arg1 main_v8
  let main_v10 : IVec S1 1 := andi main_v7 main_v9
  let main_c_3 : IVec S_ 1 := constantI S_ 1 1#1
  let main_v11 : IVec S_ 1 := (fun x v => Host.reduce IntOp.andi x v reducesTo_S1_S_d0 h_S_) main_v10 main_c_3
  let main_v12 : IVec S_ 1 := andi main_v5 main_v11
  let main_cst_4 : FVec F S_ .f32 := constant S_ .f32 0x00000000#32
  let main_v13 : FVec F S1 .f32 := broadcastInDim S1 ![] bcast_S_S1 main_cst_4
  let main_v14 : IVec S1 1 := cmpf .ogt main_arg3 main_v13
  let main_c_5 : IVec S_ 1 := constantI S_ 1 1#1
  let main_v15 : IVec S_ 1 := (fun x v => Host.reduce IntOp.andi x v reducesTo_S1_S_d0 h_S_) main_v14 main_c_5
  fn_part1 (F := F) main_v12 main_v15
-- ==== Kernel.lean ====
abbrev S64x256x2048x1 : Shape := ⟨4, ![64, 256, 2048, 1]⟩
abbrev S1 : Shape := ⟨1, ![1]⟩
abbrev S16384x16x128 : Shape := ⟨3, ![16384, 16, 128]⟩
abbrev S_ : Shape := ⟨0, ![]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S512x16x128 : Shape := ⟨3, ![512, 16, 128]⟩
abbrev S8192x128 : Shape := ⟨2, ![8192, 128]⟩
abbrev S8192x256 : Shape := ⟨2, ![8192, 256]⟩
abbrev S512x1x128 : Shape := ⟨3, ![512, 1, 128]⟩
abbrev S512x15x128 : Shape := ⟨3, ![512, 15, 128]⟩
abbrev S512x2x128 : Shape := ⟨3, ![512, 2, 128]⟩
abbrev S512x14x128 : Shape := ⟨3, ![512, 14, 128]⟩
abbrev S512x4x128 : Shape := ⟨3, ![512, 4, 128]⟩
abbrev S512x12x128 : Shape := ⟨3, ![512, 12, 128]⟩
abbrev S512x8x128 : Shape := ⟨3, ![512, 8, 128]⟩

abbrev nBuf : Space → Nat
  | .hbm => 62
  | .vmem => 5
  | .smem => 1
  | _ => 0

abbrev bufTy : (tb : Table) → Fin (tcTables nBuf tb) → BufTy
  | .hbm, ⟨0, _⟩ => ⟨S64x256x2048x1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S16384x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S128x1, .f32⟩
  | .hbm, ⟨24, _⟩ => ⟨S128, .f32⟩
  | .hbm, ⟨25, _⟩ => ⟨S1x128, .f32⟩
  | .hbm, ⟨26, _⟩ => ⟨S128x128, .f32⟩
  | .hbm, ⟨27, _⟩ => ⟨S128x128, .f32⟩
  | .hbm, ⟨28, _⟩ => ⟨S128x128, .i1⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S128x1, .f32⟩
  | .hbm, ⟨44, _⟩ => ⟨S128x1, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S_, .f32⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S128x256, .f32⟩
  | .hbm, ⟨60, _⟩ => ⟨S16384x16x128, .f32⟩
  | .hbm, ⟨61, _⟩ => ⟨S64x256x2048x1, .f32⟩
  | .local _ .vmem, ⟨0, _⟩ => ⟨S512x16x128, .f32⟩
  | .local _ .vmem, ⟨1, _⟩ => ⟨S512x16x128, .f32⟩
  | .local _ .vmem, ⟨2, _⟩ => ⟨S128x256, .f32⟩
  | .local _ .vmem, ⟨3, _⟩ => ⟨S512x16x128, .f32⟩
  | .local _ .vmem, ⟨4, _⟩ => ⟨S512x16x128, .f32⟩
  | .local _ .smem, ⟨0, _⟩ => ⟨S4, .f32⟩
  | _, _ => ⟨S64x256x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "w1" => some ((491673666618796306473486136333248941413661408841033451496681218922700500864377801673767825300084081922265073736622393453986834734027303562959001700614431336431523844411738258883755396284763045117897294304208702868242823710748212847999250059322861757993863871682681691192044831884528345155509761 / 3402823669209384634633746074317682114560000000000000000000000000000000000000000000000000000000000000000000000000000000000000000000000000000000000000000000000000000000000000000000000000000000000000000000000000000000000000000000000000000000000000000000000000000000000000000000000000000000000000000 : ℝ) : EReal)
  | "w2" => some ((241742994446371253405065789807517189865591035885347655406332058621538739238552989695373782994543079622301333951101249389687809621824266261964726153469697860190314370867843475476134875797172305958954652288360666638143211524043664112998604832626359302701387992437123110917138563999643839497326874039229218152054574370517330184229228527949349019216154385218059007995244630999305594599659681209296948087139303106923565402608189710570388267202938385677217071959360651411923928141926792106303000706769117871043434175071927889805858508506031779540482361436540115561176923735390081534375766277121 / 11579208923731619542357098500868790785326998466564056403945758400791312963993600000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)
  | "w4" => some ((58439675363898282666593893456497235820859316980044007385056077120254230848605552768176670039431329489857200805041956109512301721427173661909443716190012982047760200433818545779870959237583636565742791705662068711193081337774340739202139835058032758271831459291894698482196868258144585874223902502978691020480822375719722839471950846137759747206755073213607748304516884490435867784293334400083734042514053937036539979753117532080885377046042855258314711167297101571157685750739265668696580412897224540809152272189762845891475132985725750291728056251295637417955091289766917665671841150974159584471697297755168338415135996450417492557522577628344879381801179500287007797913787967299108654696607880078834378144769132282651931942249004328016428520722310821083759364842813671168885227775495390965831438485282326528483821493472402787603173874886752681392036244645773687526787196844534018248611249092803260934561403599029461074146010125748111498081073962212736175075631288221714138928491808824518419758326110530417664341845799695632542643895081574286465543373419952371201099913752050198897027329349382208512790210168526205698152670439514175840927289693536861620857862249376168048641 / 134078079299425970995740249982058461274793658205923933777235614437217640300735469768018742981669034276900318581864860508537538828119465699464336490060840960000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)
  | "w8" => some ((3415195656637819876609721108860919884906943909482625327544490885181943324592867745949832272722269585772236205466246984565395168057148628362602096124423245699404679307976639442027023845345648566909792313322837801128564999673049726091275716851531088952107630069823756790401183629866918311916144988378985138923259473978050221173415766145253776334211185792132159606944972850263266092081238941017493421755765665899959356438835250717114289313916515132459052217927904692889932932780731833293070032181208303294392823751356376203425531652165504126498942285205848927845240787860356959056375437068322058551173060235100096836599778171277207452062038789279741315934493021571353736463346866197957006093589829603132155421578487885817823839205218625598259241457391565676001634199595121292462954572859804448484741813236739488361776208572017138975181137397402019042404526824173906670555839166070509864141330022904547503719470421656912231222653759278256575281347147886765362853286426060894569657431181475151201986715910573584733910188630861208292258379226458360640843122887295601625670233140958542845796021567429716041678278905081791877636761312386884551147871734157992588059507517291217168318731941501903989035627100023062259827392883605306388928344800458137054146184815280740988799518718659686916538528326792779415039730691211626321485446410304081310205501908099057347517190417864750902981722821646739048266827484373254783249706214980941721990537423898371374137087387932583078871751709438720771787019817480808268315133756659577223445919444713960163408896301061314798187093638148251999307175692288818144964890700067597524717531729419145941915398837489465962813024061740327867328237407661335843246059881071011419617806733847894527812230189973058449937463086515448219494172354094880955739520043615413246703713950975521319009872904983553656291658410049945580411000479522768695109894671022965142509133445951562767531942022693761115312016586959766683674943282472619595266890945477423052524532528060920453096828445817361882699669608786204188360106560075003726159518799155833459632063181636597617108143497806553001734701227671120443100897490537946307797541842452759508844215663239067534057876751566597417376706122103093875790143889342629956267919369695702650984123052309121155519464725710528867057383772446480837246903910375251057724171238689302030854399721708036377741946881 / 17976931348623159077293051907890247336179769789423065727343008115773267580550096313270847732240753602112011387987139335765878976881441662249284743063947412437776789342486548527630221960124609411945308295208500576883815068234246288147391311054082723716335051068458629823994724593847971630483535632962422413721600000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)
  | _ => none
-- ==== ReferenceIdeal.lean ====
abbrev S64x256x2048x1 : Shape := ⟨4, ![64, 256, 2048, 1]⟩
abbrev S1 : Shape := ⟨1, ![1]⟩
abbrev S_ : Shape := ⟨0, ![]⟩
abbrev S2048x64x256x1 : Shape := ⟨4, ![2048, 64, 256, 1]⟩
abbrev S1x64x256x1 : Shape := ⟨4, ![1, 64, 256, 1]⟩
abbrev S64x256x1 : Shape := ⟨3, ![64, 256, 1]⟩
abbrev S2047x64x256x1 : Shape := ⟨4, ![2047, 64, 256, 1]⟩
abbrev S1x1x1x1 : Shape := ⟨4, ![1, 1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S64x256x2048x1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x64x256x1, .f32⟩
  | .hbm, ⟨8, _⟩ => ⟨S1x64x256x1, .f32⟩
  | .hbm, ⟨9, _⟩ => ⟨S64x256x1, .f32⟩
  | .hbm, ⟨10, _⟩ => ⟨S64x256x1, .f32⟩
  | .hbm, ⟨11, _⟩ => ⟨S64x256x1, .f32⟩
  | .hbm, ⟨12, _⟩ => ⟨S2047x64x256x1, .f32⟩
  | .hbm, ⟨13, _⟩ => ⟨S_, .f32⟩
  | .hbm, ⟨14, _⟩ => ⟨S2047x64x256x1, .f32⟩
  | .hbm, ⟨15, _⟩ => ⟨S_, .i32⟩
  | .hbm, ⟨16, _⟩ => ⟨S2047x64x256x1, .f32⟩
  | .hbm, ⟨17, _⟩ => ⟨S_, .f32⟩
  | .hbm, ⟨18, _⟩ => ⟨S_, .i32⟩
  | .hbm, ⟨19, _⟩ => ⟨S64x256x1, .f32⟩
  | .hbm, ⟨20, _⟩ => ⟨S2047x64x256x1, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x64x256x1, .f32⟩
  | .hbm, ⟨27, _⟩ => ⟨S64x256x1, .f32⟩
  | .hbm, ⟨28, _⟩ => ⟨S_, .f32⟩
  | .hbm, ⟨29, _⟩ => ⟨S_, .f32⟩
  | .hbm, ⟨30, _⟩ => ⟨S64x256x1, .f32⟩
  | .hbm, ⟨31, _⟩ => ⟨S64x256x1, .f32⟩
  | .hbm, ⟨32, _⟩ => ⟨S64x256x1, .f32⟩
  | .hbm, ⟨33, _⟩ => ⟨S64x256x1, .f32⟩
  | .hbm, ⟨34, _⟩ => ⟨S64x256x1, .f32⟩
  | .hbm, ⟨35, _⟩ => ⟨S1x64x256x1, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S2047x64x256x1, .f32⟩
  | .hbm, ⟨40, _⟩ => ⟨S_, .i32⟩
  | .hbm, ⟨41, _⟩ => ⟨S_, .i32⟩
  | .hbm, ⟨42, _⟩ => ⟨S1x64x256x1, .f32⟩
  | .hbm, ⟨43, _⟩ => ⟨S2048x64x256x1, .f32⟩
  | .hbm, ⟨44, _⟩ => ⟨S64x256x2048x1, .f32⟩
  | .hbm, ⟨45, _⟩ => ⟨S_, .f32⟩
  | .hbm, ⟨46, _⟩ => ⟨S64x256x2048x1, .f32⟩
  | .hbm, ⟨47, _⟩ => ⟨S64x256x2048x1, .f32⟩
  | .hbm, ⟨48, _⟩ => ⟨S1x1x1x1, .f32⟩
  | .hbm, ⟨49, _⟩ => ⟨S64x256x2048x1, .f32⟩
  | .hbm, ⟨50, _⟩ => ⟨S64x256x2048x1, .f32⟩
  | .hbm, ⟨51, _⟩ => ⟨S64x256x2048x1, .f32⟩
  | .hbm, ⟨52, _⟩ => ⟨S1x1x1x1, .f32⟩
  | .hbm, ⟨53, _⟩ => ⟨S64x256x2048x1, .f32⟩
  | .hbm, ⟨54, _⟩ => ⟨S64x256x2048x1, .f32⟩
  | .hbm, ⟨55, _⟩ => ⟨S1x1x1x1, .f32⟩
  | .hbm, ⟨56, _⟩ => ⟨S64x256x2048x1, .f32⟩
  | .hbm, ⟨57, _⟩ => ⟨S64x256x2048x1, .f32⟩
  | .hbm, ⟨58, _⟩ => ⟨S1, .f32⟩
  | .hbm, ⟨59, _⟩ => ⟨S1x1x1x1, .f32⟩
  | .hbm, ⟨60, _⟩ => ⟨S64x256x2048x1, .f32⟩
  | .hbm, ⟨61, _⟩ => ⟨S64x256x2048x1, .f32⟩
  | _, _ => ⟨S64x256x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_c : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_while0c_c_7 : Ref sig .tc := ⟨.hbm, 21, rfl⟩
abbrev main_while0c_v28 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_c_1 : Ref sig .tc := ⟨.hbm, 25, rfl⟩
abbrev main_while0b_call0_v0 : Ref sig .tc := ⟨.hbm, 26, rfl⟩
abbrev main_while0b_v28 : Ref sig .tc := ⟨.hbm, 27, rfl⟩
abbrev main_while0b_cst_7 : Ref sig .tc := ⟨.hbm, 28, rfl⟩
abbrev main_while0b_v29 : Ref sig .tc := ⟨.hbm, 29, rfl⟩
abbrev main_while0b_v30 : Ref sig .tc := ⟨.hbm, 30, rfl⟩
abbrev main_while0b_v31 : Ref sig .tc := ⟨.hbm, 31, rfl⟩
abbrev main_while0b_v32 : Ref sig .tc := ⟨.hbm, 32, rfl⟩
abbrev main_while0b_v33 : Ref sig .tc := ⟨.hbm, 33, rfl⟩
abbrev main_while0b_v34 : Ref sig .tc := ⟨.hbm, 34, rfl⟩
abbrev main_while0b_call1_v0 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_c_1 : Ref sig .tc := ⟨.hbm, 38, rfl⟩
abbrev main_while0b_v35 : Ref sig .tc := ⟨.hbm, 39, rfl⟩
abbrev main_while0b_c_8 : Ref sig .tc := ⟨.hbm, 40, rfl⟩
abbrev main_while0b_v36 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]

abbrev main_while0_count : Scf.Loop 32 := ⟨0#32, 2047#32, 1#32⟩
-- ==== Proof.Smoothing.lean ====
/- The first-order smoother over the real numbers, and the two ways the programs arrive at it: the recurrence that the
   reference walks, and the chunked scan of the kernel (a local scan of each chunk of 128 samples, and the carries of
   the chunks before it added up by four doubling steps). Nothing here mentions a program. -/
module

public import Idealize.ShloMosaic.PureOps.Ideal

@[expose] public section

noncomputable section

namespace Cert.Smoothing

open Finset

/-- The weight of a new sample, 15/1000. -/
def s : ℝ := 3 / 200

/-- The weight of the smoothed past, 1 - 15/1000. -/
def q : ℝ := 197 / 200

/-- The decay is positive. -/
theorem q_pos : 0 < q := by norm_num [q]

/-- The smoother started from rest, after `n` samples of `x`. -/
def rest (x : ℕ → ℝ) : ℕ → ℝ
  | 0 => 0
  | n + 1 => q * rest x n + s * x n

/-- The smoother at sample `t`: `s x₀` at the first sample, then `q` times the previous value plus `s xₜ`. -/
def smooth (x : ℕ → ℝ) : ℕ → ℝ
  | 0 => s * x 0
  | t + 1 => q * smooth x t + s * x (t + 1)

/-- The smoother at sample `t` has seen `t + 1` samples. -/
theorem smooth_eq_rest (x : ℕ → ℝ) : ∀ t, smooth x t = rest x (t + 1)
  | 0 => by simp [smooth, rest]
  | t + 1 => by rw [smooth, smooth_eq_rest x t, rest.eq_2 x (t + 1)]

/-- Nonnegative samples smooth to nonnegative values. -/
theorem smooth_nonneg {x : ℕ → ℝ} (hx : ∀ n, 0 ≤ x n) : ∀ t, 0 ≤ smooth x t
  | 0 => mul_nonneg (by norm_num [s]) (hx 0)
  | t + 1 => add_nonneg (mul_nonneg q_pos.le (smooth_nonneg hx t)) (mul_nonneg (by norm_num [s]) (hx _))

/-- `m` more samples after `n`: the past decays by `q ^ m`, and each new sample enters with its own weight. -/
theorem rest_add (x : ℕ → ℝ) (n : ℕ) : ∀ m, rest x (n + m) = q ^ m * rest x n + ∑ k ∈ range m, s * q ^ (m - 1 - k) * x (n + k)
  | 0 => by simp
  | m + 1 => by
    rw [← Nat.add_assoc, rest, rest_add x n m, sum_range_succ, mul_add, ← mul_assoc, ← pow_succ', mul_sum]
    have : ∀ k ∈ range m, q * (s * q ^ (m - 1 - k) * x (n + k)) = s * q ^ (m + 1 - 1 - k) * x (n + k) := fun k hk => by
      have hk := mem_range.mp hk
      rw [show m + 1 - 1 - k = (m - 1 - k) + 1 by omega, pow_succ]; ring
    rw [sum_congr rfl this, show m + 1 - 1 - m = 0 by omega, pow_zero, mul_one, add_assoc]

/-- The weight of sample `k` of a chunk in that chunk's local scan at lane `t`. -/
def scanW (k t : ℕ) : ℝ := if k ≤ t then s * q ^ (t - k) else 0

/-- The weight of sample `k` of a chunk in what a LATER chunk owes to it at lane `t`, short of the decay over the
    chunks between. -/
def carryW (k t : ℕ) : ℝ := s * q ^ (127 - k) * q ^ (t + 1) / q ^ 128

/-- Chunk `c`'s local scan at lane `t`. -/
def scan (x : ℕ → ℝ) (c t : ℕ) : ℝ := ∑ k ∈ range 128, x (128 * c + k) * scanW k t

/-- Chunk `c`'s carry at lane `t`. -/
def carry (x : ℕ → ℝ) (c t : ℕ) : ℝ := ∑ k ∈ range 128, x (128 * c + k) * carryW k t

/-- One doubling step of span `n`: add the value `n` chunks back, decayed over those `n` chunks. -/
def dbl (n : ℕ) (p : ℕ → ℝ) (c : ℕ) : ℝ := p c + q ^ (128 * n) * (if c < n then 0 else p (c - n))

/-- The smoother at lane `t` of chunk `c`: the past of the chunk, decayed, plus the chunk's local scan. -/
theorem smooth_chunk (x : ℕ → ℝ) (c t : ℕ) (ht : t < 128) :
    smooth x (128 * c + t) = q ^ (t + 1) * rest x (128 * c) + scan x c t := by
  rw [smooth_eq_rest, Nat.add_assoc, rest_add, scan, ← sum_range_add_sum_Ico _ (show t + 1 ≤ 128 by omega)]
  rw [sum_eq_zero (s := Ico (t + 1) 128) fun k hk => by
    rw [scanW, if_neg (by have := mem_Ico.mp hk; omega), mul_zero], add_zero]
  congr 1
  refine sum_congr rfl fun k hk => ?_
  have := mem_range.mp hk
  rw [scanW, if_pos (by omega), show t + 1 - 1 - k = t - k by omega, mul_comm]

/-- A chunk's carry is what the chunk adds to the smoother, scaled to the lane. -/
theorem carry_eq (x : ℕ → ℝ) (c t : ℕ) :
    carry x c t = q ^ (t + 1) / q ^ 128 * (rest x (128 * (c + 1)) - q ^ 128 * rest x (128 * c)) := by
  rw [show 128 * (c + 1) = 128 * c + 128 by ring, rest_add, add_sub_cancel_left, carry, mul_sum]
  refine sum_congr rfl fun k _ => ?_
  rw [carryW, show 128 - 1 - k = 127 - k by omega]; ring

/-- The carries gathered over a window of `n` chunks that ends at chunk `c`. -/
def gathered (x : ℕ → ℝ) (t n c : ℕ) : ℝ :=
  q ^ (t + 1) / q ^ 128 * (rest x (128 * (c + 1)) - q ^ (128 * n) * rest x (128 * (c + 1 - n)))

/-- Of one chunk, what is gathered is its carry. -/
theorem gathered_one (x : ℕ → ℝ) (t c : ℕ) : gathered x t 1 c = carry x c t := by
  rw [carry_eq, gathered, Nat.add_sub_cancel, Nat.mul_one]

/-- A doubling step of span `n` doubles a window of `n` chunks. -/
theorem dbl_gathered (x : ℕ → ℝ) (t n c : ℕ) : dbl n (gathered x t n) c = gathered x t (2 * n) c := by
  unfold dbl gathered
  by_cases h : c < n
  · rw [if_pos h, show c + 1 - n = 0 by omega, show c + 1 - 2 * n = 0 by omega]; simp [rest]
  · rw [if_neg h, show c - n + 1 = c + 1 - n by omega, show c + 1 - 2 * n = c + 1 - n - n by omega,
      show 128 * (2 * n) = 128 * n + 128 * n by ring, pow_add]
    ring

/-- Four doubling steps gather the carries of sixteen chunks. -/
theorem dbl_four (x : ℕ → ℝ) (t c : ℕ) :
    dbl 8 (dbl 4 (dbl 2 (dbl 1 fun c => carry x c t))) c = gathered x t 16 c := by
  have h0 : (fun c => carry x c t) = gathered x t 1 := funext fun c => (gathered_one x t c).symm
  have h1 : dbl 1 (gathered x t 1) = gathered x t 2 := funext (dbl_gathered x t 1)
  have h2 : dbl 2 (gathered x t 2) = gathered x t 4 := funext (dbl_gathered x t 2)
  have h3 : dbl 4 (gathered x t 4) = gathered x t 8 := funext (dbl_gathered x t 4)
  rw [h0, h1, h2, h3]; exact dbl_gathered x t 8 c

/-- The kernel's chunked scan is the smoother: the local scan, plus the gathered carries less the chunk's own. -/
theorem chunked (x : ℕ → ℝ) (c t : ℕ) (hc : c < 16) (ht : t < 128) :
    scan x c t + (dbl 8 (dbl 4 (dbl 2 (dbl 1 fun c => carry x c t))) c - carry x c t) = smooth x (128 * c + t) := by
  rw [dbl_four, gathered, carry_eq, smooth_chunk x c t ht, show c + 1 - 16 = 0 by omega]
  have : q ^ 128 ≠ 0 := (pow_pos q_pos _).ne'
  simp only [rest, Nat.mul_zero, mul_zero, sub_zero]
  generalize q ^ 128 = w at this ⊢
  field_simp
  ring

end Cert.Smoothing

end
-- ==== Proof.Scalars.lean ====
/- Extended-real arithmetic for the two programs: the constants they print, finite sums, and the one scalar equation
   between the kernel's exponentials of logarithms and the reference's powers. Nothing here mentions a program. -/
module

public import Idealize.ShloMosaic.PureOps.Ideal
public import Idealize.ShloMosaic.Lib.IdealHost
public import proofs.«01_k».proof.Proof.Smoothing

@[expose] public section

noncomputable section

namespace Cert.Scalars

open Idealize.ShloMosaic Cert.Smoothing

/-! ## The printed constants -/

/-- The numerator of the smoothing weight is 15. -/
theorem bits_15 : Ideal.ofBits .f32 0x41700000#32 = ((15 : ℝ) : EReal) := by
  simp [Ideal.ofBits, Ideal.ieee, -EReal.coe_mul]; norm_num

/-- Its denominator is 1000. -/
theorem bits_1000 : Ideal.ofBits .f32 0x447A0000#32 = ((1000 : ℝ) : EReal) := by
  simp [Ideal.ofBits, Ideal.ieee, -EReal.coe_mul]; norm_num

/-- The word for one. -/
theorem bits_1 : Ideal.ofBits .f32 0x3F800000#32 = ((1 : ℝ) : EReal) := by
  rw [Ideal.ofBits_one_f32, EReal.coe_one]

/-- The word for 127. -/
theorem bits_127 : Ideal.ofBits .f32 0x42FE0000#32 = ((127 : ℝ) : EReal) := by
  simp [Ideal.ofBits, Ideal.ieee, -EReal.coe_mul]; norm_num

/-- The word for 128. -/
theorem bits_128 : Ideal.ofBits .f32 0x43000000#32 = ((128 : ℝ) : EReal) := by
  simp [Ideal.ofBits, Ideal.ieee, -EReal.coe_mul]; norm_num

/-- The floor added to the smoothed energy, as both programs print it. -/
def floorE : EReal := Ideal.ofBits .f32 0x3089705F#32

/-- The floor is a positive real. -/
theorem floorE_pos : ∃ r : ℝ, 0 < r ∧ floorE = (r : EReal) :=
  ⟨9007199 * (2 ^ 53)⁻¹, by positivity, by simp [floorE, Ideal.ofBits, Ideal.ieee]⟩

/-- The smoothing weight as both programs compute it, 15 over 1000. -/
theorem weight : Ideal.div ((15 : ℝ) : EReal) ((1000 : ℝ) : EReal) = (s : EReal) := by
  rw [Ideal.div_coe (by norm_num), ← EReal.coe_mul]; congr 1; norm_num [s]

/-- One less the smoothing weight. -/
theorem one_sub_weight : ((1 : ℝ) : EReal) - (s : EReal) = (q : EReal) := by
  rw [← EReal.coe_sub]; congr 1; norm_num [s, q]

/-! ## Finite sums -/

/-- A finite sum of reals is a real. -/
theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- The sum over the 128 lanes of a chunk of products of reals. -/
theorem coe_dot (f g : ℕ → ℝ) :
    ∑ k : Fin 128, (f k.val : EReal) * (g k.val : EReal) = ((∑ k ∈ Finset.range 128, f k * g k : ℝ) : EReal) := by
  rw [coe_sum, ← Fin.sum_univ_eq_sum_range (fun k => ((f k * g k : ℝ) : EReal))]
  exact Finset.sum_congr rfl fun k _ => (EReal.coe_mul _ _).symm

/-! ## Powers -/

/-- A power of `q` at a natural exponent. -/
theorem pow_q (n : ℕ) : Ideal.pow (q : EReal) ((n : ℝ) : EReal) = ((q ^ n : ℝ) : EReal) := by
  rw [Ideal.pow_coe_coe]; congr 1; exact Real.rpow_natCast q n

/-- The exponential of zero is one. -/
theorem exp_zero : Ideal.exp 0 = 1 := by
  rw [← EReal.coe_zero, Ideal.exp_coe, Real.exp_zero, EReal.coe_one]

/-- `exp (y · log r) = r ^ y` at a positive real `r` and any `y`, the infinities too. -/
theorem exp_mul_log {u : EReal} (hu : 0 < u) (y : EReal) : Ideal.exp (y * Ideal.log u) = Ideal.pow u y := by
  induction u with
  | bot => simp at hu
  | top =>
    rw [Ideal.log_top, Ideal.pow_top]
    rcases lt_trichotomy y 0 with h | h | h
    · rw [EReal.mul_top_of_neg h, Ideal.exp_bot, if_neg h.not_gt, if_neg h.ne]
    · subst h; rw [zero_mul, if_neg (lt_irrefl _), if_pos rfl]; exact exp_zero
    · rw [EReal.mul_top_of_pos h, Ideal.exp_top, if_pos h]
  | coe r =>
    have hr : 0 < r := by exact_mod_cast hu
    rw [Ideal.log_coe, if_neg hr.not_ge]
    induction y with
    | coe y =>
      rw [← EReal.coe_mul, Ideal.exp_coe, Ideal.pow_coe_coe]; congr 1
      rw [mul_comm]; exact (Real.rpow_def_of_pos hr y).symm
    | top =>
      rw [Ideal.pow_coe_top, if_neg hr.not_gt]
      rcases lt_trichotomy r 1 with h | h | h
      · rw [EReal.top_mul_coe_of_neg (Real.log_neg hr h), Ideal.exp_bot, if_neg h.not_gt, if_neg h.ne]
      · subst h; rw [Real.log_one, EReal.coe_zero, mul_zero, if_neg (lt_irrefl _), if_pos rfl]
        exact exp_zero
      · rw [EReal.top_mul_coe_of_pos (Real.log_pos h), Ideal.exp_top, if_pos h]
    | bot =>
      rw [Ideal.pow_coe_bot, if_neg hr.not_gt]
      rcases lt_trichotomy r 1 with h | h | h
      · rw [EReal.bot_mul_coe_of_neg (Real.log_neg hr h), Ideal.exp_top, if_neg h.not_gt, if_neg h.ne]
      · subst h; rw [Real.log_one, EReal.coe_zero, mul_zero, if_neg (lt_irrefl _), if_pos rfl]
        exact exp_zero
      · rw [EReal.bot_mul_coe_of_pos (Real.log_pos h), Ideal.exp_bot, if_pos h]

/-! ## The equation -/

/-- The compressed energy of one sample, as the reference computes it from the smoothed energy `M`. -/
def pcen (x M alpha power bias : EReal) : EReal :=
  Ideal.pow (Ideal.div x (Ideal.pow (floorE + M) alpha) + bias) power - Ideal.pow bias power

/-- The same sample as the kernel computes it, by exponentials of logarithms. -/
def pcenLog (x M alpha power bias : EReal) : EReal :=
  Ideal.exp (power * Ideal.log (x * Ideal.exp (-alpha * Ideal.log (floorE + M)) + bias)) - Ideal.pow bias power

/-- The two agree at a nonnegative finite sample and smoothed energy, a finite alpha and a positive bias. -/
theorem pcenLog_eq {x M a : ℝ} (hx : 0 ≤ x) (hM : 0 ≤ M) {bias : EReal} (hb : 0 < bias) (power : EReal) :
    pcenLog x M a power bias = pcen x M a power bias := by
  obtain ⟨e, he, hE⟩ := floorE_pos
  have hr : 0 < e + M := by linarith
  have hp : 0 < (e + M) ^ a := Real.rpow_pos_of_pos hr a
  have h1 : (x : EReal) * Ideal.exp (-(a : EReal) * Ideal.log (floorE + M)) = ((x * ((e + M) ^ a)⁻¹ : ℝ) : EReal) := by
    rw [hE, ← EReal.coe_add, Ideal.log_coe, if_neg hr.not_ge, ← EReal.coe_neg, ← EReal.coe_mul, Ideal.exp_coe, ← EReal.coe_mul]
    rw [← Real.rpow_neg hr.le, Real.rpow_def_of_pos hr]; congr 3; ring
  have h2 : Ideal.div (x : EReal) (Ideal.pow (floorE + M) a) = ((x * ((e + M) ^ a)⁻¹ : ℝ) : EReal) := by
    rw [hE, ← EReal.coe_add, Ideal.pow_coe_coe]
    rw [show Real.rpow (e + M) a = (e + M) ^ a from rfl, Ideal.div_coe hp.ne', one_div, ← EReal.coe_mul]
  unfold pcenLog pcen
  rw [h1, h2, exp_mul_log]
  exact lt_of_lt_of_le hb (le_add_of_nonneg_left (by exact_mod_cast mul_nonneg hx (inv_nonneg.mpr hp.le)))

end Cert.Scalars

end
-- ==== Proof.Block.lean ====
/- What one block of the kernel computes: a table product gives every chunk's local scan and its carry, four doublings
   gather the carries, and the smoothed energies compress the block's samples. -/
module

public import proofs.«01_k».proof.Proof.Gen.KernelIdeal.Skeleton
public import Idealize.ShloMosaic.Lib.Pointwise
public import proofs.«01_k».proof.Proof.Smoothing
public import proofs.«01_k».proof.Proof.Scalars

@[expose] public section

set_option maxRecDepth 16384

noncomputable section

namespace Cert.KernelIdeal.Block

open Idealize.ShloMosaic Cert.KernelIdeal Cert.KernelIdeal.Gen Cert.Smoothing Cert.Scalars

/-! ## The named weights -/

set_option exponentiation.threshold 4096

/-- The weight of the first doubling is the decay over one chunk. -/
theorem w1 : (Named.named (F := Ideal) κ "w1" (φ := .f32) 0x3E13F529#32 : EReal) = ((q ^ (128 * 1) : ℝ) : EReal) := by
  rw [IdealRules.named_const.ideal_named_scalar _ _ _ _ rfl, EReal.coe_eq_coe_iff]
  norm_num [q]

/-- The weight of the second is the decay over two chunks. -/
theorem w2 : (Named.named (F := Ideal) κ "w2" (φ := .f32) 0x3CAB06F1#32 : EReal) = ((q ^ (128 * 2) : ℝ) : EReal) := by
  rw [IdealRules.named_const.ideal_named_scalar _ _ _ _ rfl, EReal.coe_eq_coe_iff]
  norm_num [q]

/-- The weight of the third is the decay over four chunks. -/
theorem w4 : (Named.named (F := Ideal) κ "w4" (φ := .f32) 0x39E4848B#32 : EReal) = ((q ^ (128 * 4) : ℝ) : EReal) := by
  rw [IdealRules.named_const.ideal_named_scalar _ _ _ _ rfl, EReal.coe_eq_coe_iff]
  norm_num [q]

/-- The weight of the fourth is the decay over eight chunks. -/
theorem w8 : (Named.named (F := Ideal) κ "w8" (φ := .f32) 0x344BFC5C#32 : EReal) = ((q ^ (128 * 8) : ℝ) : EReal) := by
  rw [IdealRules.named_const.ideal_named_scalar _ _ _ _ rfl, EReal.coe_eq_coe_iff]
  norm_num [q]

/-- The carries of row `r`, lane `t`, as a sequence over the chunks. -/
def Reads (p : FVec Ideal S512x16x128 .f32) (r : Fin 512) (t : Fin 128) (f : ℕ → ℝ) : Prop :=
  ∀ c : Fin 16, p (ix3 r c t) = (f c : EReal)

/-- One doubling at an index: the chunk's carry plus the weighted carry of the chunk `n` before, if there is one. -/
theorem doubled {n k : ℕ} (p : FVec Ideal S512x16x128 .f32) (w : EReal) (r : Fin 512) (t : Fin 128) (f : ℕ → ℝ)
    (hs : S512x16x128.Slices ![0, 0, 0] ⟨3, ![512, k, 128]⟩)
    (hc : Shape.Concatenates [⟨3, ![512, n, 128]⟩, ⟨3, ![512, k, 128]⟩] S512x16x128 1)
    (hw : w = ((q ^ (128 * n) : ℝ) : EReal)) (hp : Reads p r t f) :
    Reads (addf p (mulf (broadcast S512x16x128 w) (concatenate S512x16x128 1
      [⟨⟨3, ![512, n, 128]⟩, broadcast ⟨3, ![512, n, 128]⟩ (Scalar.ofBits (F := Ideal) .f32 0x00000000#32)⟩,
       ⟨⟨3, ![512, k, 128]⟩, extractStridedSlice ⟨3, ![512, k, 128]⟩ ![0, 0, 0] p hs⟩] hc))) r t (dbl n f) := by
  intro c
  pointwise
  rw [hp c, hw, dbl, EReal.coe_add, EReal.coe_mul]
  congr 2
  by_cases h : c.val < n
  · rw [dif_pos h, if_pos h, EReal.coe_zero]
  · rw [dif_neg h, if_neg h]
    exact hp ⟨c.val - n, by omega⟩

/-! ## The table product -/

/-- The table's left half gives a chunk's scan: the chunk's samples against the table's column. -/
theorem scan_at (x : FVec Ideal S512x16x128 .f32) (ad : FVec Ideal S128x256 .f32) (r : Fin 512) (c : Fin 16) (t : Fin 128)
    (X : ℕ → ℝ) (hx : ∀ (c : Fin 16) (k : Fin 128), x (ix3 r c k) = (X (128 * c + k) : EReal))
    (had : ∀ k : Fin 128, ad (ix2 k ⟨t, by omega⟩) = (scanW k t : EReal)) :
    (shapeCast S512x16x128 (extractStridedSlice S8192x128 ![0, 0]
      (matmul dot_S8192x128_S128x256_S8192x256_1_0_0_1_n_n none
        (shapeCast S8192x128 (k0_pay2 x) shapeCasts_S512x16x128_S8192x128) (shapeCast S128x256 ad shapeCasts_S128x256_S128x256)
        (constant S8192x256 .f32 0x00000000#32)) slices_S8192x256_o0_0_S8192x128)
      shapeCasts_S8192x128_S512x16x128 : FVec Ideal S512x16x128 .f32) (ix3 r c t) = (scan X c t : EReal) := by
  pointwise [k0_pay2]
  rw [Smoothing.scan, ← coe_dot]
  exact Finset.sum_congr rfl fun k _ => by rw [hx, had]

/-- The table's right half gives a chunk's carry. -/
theorem carry_at (x : FVec Ideal S512x16x128 .f32) (ad : FVec Ideal S128x256 .f32) (r : Fin 512) (c : Fin 16) (t : Fin 128)
    (X : ℕ → ℝ) (hx : ∀ (c : Fin 16) (k : Fin 128), x (ix3 r c k) = (X (128 * c + k) : EReal))
    (had : ∀ k : Fin 128, ad (ix2 k ⟨128 + t, by omega⟩) = (carryW k t : EReal)) :
    (shapeCast S512x16x128 (extractStridedSlice S8192x128 ![0, 128]
      (matmul dot_S8192x128_S128x256_S8192x256_1_0_0_1_n_n none
        (shapeCast S8192x128 (k0_pay2 x) shapeCasts_S512x16x128_S8192x128) (shapeCast S128x256 ad shapeCasts_S128x256_S128x256)
        (constant S8192x256 .f32 0x00000000#32)) slices_S8192x256_o0_128_S8192x128)
      shapeCasts_S8192x128_S512x16x128 : FVec Ideal S512x16x128 .f32) (ix3 r c t) = (carry X c t : EReal) := by
  pointwise [k0_pay2]
  rw [carry, ← coe_dot]
  exact Finset.sum_congr rfl fun k _ => by rw [hx, had]

/-! ## The block -/

/-- At a row of finite samples, and with the scan's table, what the kernel adds up is the smoother's value. -/
theorem smooth_at (x : FVec Ideal S512x16x128 .f32) (ad : FVec Ideal S128x256 .f32) (r : Fin 512) (c : Fin 16) (t : Fin 128)
    (X : ℕ → ℝ) (hx : ∀ (c : Fin 16) (k : Fin 128), x (ix3 r c k) = (X (128 * c + k) : EReal))
    (hscan : ∀ k : Fin 128, ad (ix2 k ⟨t, by omega⟩) = (scanW k t : EReal))
    (hcarry : ∀ k : Fin 128, ad (ix2 k ⟨128 + t, by omega⟩) = (carryW k t : EReal)) :
    (k0_pay3 (F := Ideal) x ad : FVec Ideal S512x16x128 .f32) (ix3 r c t) = (smooth X (128 * c + t) : EReal) := by
  rw [← chunked X c t c.2 t.2]
  have hl := scan_at x ad r c t X hx hscan
  have hp : Reads _ r t (fun c => carry X c t) := fun c => carry_at x ad r c t X hx hcarry
  have h1 := doubled _ _ r t _ slices_S512x16x128_o0_0_0_S512x15x128 concatenates_S512x1x128_S512x15x128_S512x16x128_d1 w1 hp
  have h2 := doubled _ _ r t _ slices_S512x16x128_o0_0_0_S512x14x128 concatenates_S512x2x128_S512x14x128_S512x16x128_d1 w2 h1
  have h4 := doubled _ _ r t _ slices_S512x16x128_o0_0_0_S512x12x128 concatenates_S512x4x128_S512x12x128_S512x16x128_d1 w4 h2
  have h8 := doubled _ _ r t _ slices_S512x16x128_o0_0_0_S512x8x128 concatenates_S512x8x128_S512x8x128_S512x16x128_d1 w8 h4
  rw [EReal.coe_add, EReal.coe_sub, ← hl, ← hp c, ← h8 c]
  rfl

/-- What the body stores at an index, from its scalars, its samples and what it added up. -/
theorem stored_at (v0 v1 v2 v3 : EReal) (x M : FVec Ideal S512x16x128 .f32) (r : Fin 512) (c : Fin 16) (t : Fin 128) :
    (k0_pay1 (F := Ideal) v0 v1 v2 v3 (k0_pay2 x) M (Scalar.ofBits (F := Ideal) .f32 0x3089705F#32) : FVec Ideal S512x16x128 .f32) (ix3 r c t)
      = Ideal.exp (v1 * Ideal.log (x (ix3 r c t) * Ideal.exp (v0 * Ideal.log (floorE + M (ix3 r c t))) + v2)) - v3 := by
  pointwise [k0_pay1, k0_pay2]
  rfl

end Cert.KernelIdeal.Block

end
-- ==== Proof.Table.lean ====
/- What the operations before the kernel leave: the scan's table, the four parameters, and the samples as rows of
   chunks. -/
module

public import proofs.«01_k».proof.Proof.Gen.KernelIdeal.Frame
public import Idealize.ShloMosaic.Lib.Pointwise
public import Idealize.ShloMosaic.Lib.Pipeline.Value
public import Idealize.ShloMosaic.Lib.StableHlo.RunRead
public import proofs.«01_k».proof.Proof.Smoothing
public import proofs.«01_k».proof.Proof.Scalars

@[expose] public section

set_option maxRecDepth 16384

noncomputable section

namespace Cert.KernelIdeal.Table

open Idealize.ShloMosaic Idealize.ShloMosaic.StableHlo Cert.KernelIdeal Cert.KernelIdeal.Gen Cert.Smoothing Cert.Scalars

/-- The number of a row or a column, read as a float. -/
theorem number (k : Fin 128) : (FloatOps.sitofp (F := Ideal) .f32 (BitVec.ofNat 32 k) : EReal) = ((k : ℕ) : ℝ) := by
  show (((BitVec.ofNat 32 k).toInt : ℝ) : EReal) = _
  rw [BitVec.toInt_eq_toNat_of_lt (by rw [BitVec.toNat_ofNat]; omega), BitVec.toNat_ofNat, Nat.mod_eq_of_lt (by omega)]
  norm_cast

/-- The weight of sample `k` in the scan at lane `t`, as the host works it out. -/
theorem scan_weight (k t : Fin 128) :
    (if ((k : ℕ) : ℝ) ≤ (((t : ℕ) : ℝ) : EReal) then (s : EReal) * Ideal.pow q ((((t : ℕ) : ℝ) : EReal) - ((k : ℕ) : ℝ)) else 0)
      = (scanW k t : EReal) := by
  rw [scanW]
  by_cases h : k.val ≤ t.val
  · rw [if_pos (by exact_mod_cast h), if_pos h, ← EReal.coe_sub, ← Nat.cast_sub h, pow_q, EReal.coe_mul]
  · rw [if_neg (by exact_mod_cast h), if_neg h, EReal.coe_zero]

/-- The weight of sample `k` in the carry at lane `t`, as the host works it out. -/
theorem carry_weight (k t : Fin 128) :
    Ideal.div ((s : EReal) * Ideal.pow q ((127 : ℝ) - ((k : ℕ) : ℝ)) * Ideal.pow q ((((t : ℕ) : ℝ) : EReal) + 1)) (Ideal.pow q (128 : ℝ))
      = (carryW k t : EReal) := by
  have h1 : ((127 : ℝ) : EReal) - ((k : ℕ) : ℝ) = ((127 - k.val : ℕ) : ℝ) := by
    rw [← EReal.coe_sub, Nat.cast_sub (by omega)]; norm_num
  have h2 : (((t : ℕ) : ℝ) : EReal) + 1 = ((t.val + 1 : ℕ) : ℝ) := by push_cast; rfl
  have h3 : ((128 : ℝ) : EReal) = ((128 : ℕ) : ℝ) := by norm_num
  rw [h1, h2, h3, pow_q, pow_q, pow_q, ← EReal.coe_mul, ← EReal.coe_mul, Ideal.div_coe (pow_pos q_pos _).ne', carryW, ← EReal.coe_mul,
    mul_one_div]

variable (m : (ℓ : Loc nD τ sig) → Buf (Elt Ideal) ℓ) (c : Dev nD)

/-- The table as the region finds it. -/
abbrev table : FVec Ideal S128x256 .f32 := V m c main_v46
/-- The parameters as the region finds them. -/
abbrev params : FVec Ideal S4 .f32 := V m c main_v12
/-- The samples as the region finds them. -/
abbrev rows : FVec Ideal S16384x16x128 .f32 := V m c main_v0

/-- The table's left half holds the scan's weights. -/
theorem table_scan (k t : Fin 128) : table m c (ix2 k ⟨t, by omega⟩) = (scanW k t : EReal) := by
  simp only [table, V, V0, List.flatten_cons, List.flatten_nil, List.append_nil, after_append]
  after_reads_simp
  pointwise
  simp only [TRef.toBuf, TRef.ofBuf, cast_eq, id]
  pointwise
  rw [bits_15, bits_1000, weight, ← EReal.coe_one, one_sub_weight, number, number, scan_weight]

/-- The table's right half holds the carry's weights. -/
theorem table_carry (k t : Fin 128) : table m c (ix2 k ⟨128 + t, by omega⟩) = (carryW k t : EReal) := by
  simp only [table, V, V0, List.flatten_cons, List.flatten_nil, List.append_nil, after_append]
  after_reads_simp
  pointwise
  rw [bits_15, bits_1000, bits_127, bits_128, weight, ← EReal.coe_one, one_sub_weight, number, number]
  exact carry_weight k t

/-- The exponent `alpha`, as launched. -/
abbrev arg1 : FVec Ideal S1 .f32 := m (c, Proc.devRef .tc main_arg1)
/-- The power, as launched. -/
abbrev arg2 : FVec Ideal S1 .f32 := m (c, Proc.devRef .tc main_arg2)
/-- The bias, as launched. -/
abbrev arg3 : FVec Ideal S1 .f32 := m (c, Proc.devRef .tc main_arg3)

/-- The parameters: minus the exponent, the power, the bias, and the bias to the power. -/
theorem params_at : params m c (ix1 0) = -(arg1 m c (ix1 0)) ∧ params m c (ix1 1) = arg2 m c (ix1 0)
    ∧ params m c (ix1 2) = arg3 m c (ix1 0) ∧ params m c (ix1 3) = Ideal.pow (arg3 m c (ix1 0)) (arg2 m c (ix1 0)) := by
  simp only [params, V, V0, List.flatten_cons, List.flatten_nil, List.append_nil, after_append]
  after_reads_simp
  refine ⟨?_, ?_, ?_, ?_⟩ <;>
  · pointwise
    rw [unary_result]
    after_reads_simp
    pointwise

/-- The samples as rows of chunks: row `256·b + f`, chunk `k`, lane `t` is sample `128·k + t` of channel `(b, f)`. -/
theorem rows_at (b : Fin 64) (f : Fin 256) (k : Fin 16) (t : Fin 128) :
    rows m c (ix3 ⟨256 * b + f, by omega⟩ k t)
      = (m (c, Proc.devRef .tc main_arg0) : FVec Ideal S64x256x2048x1 .f32) (ix4 b f ⟨128 * k + t, by omega⟩ 0) := by
  simp only [rows, V, V0, List.flatten_cons, List.flatten_nil, List.append_nil, after_append]
  after_reads_simp
  pointwise
  simp only [Nat.mul_comm 128]

end Cert.KernelIdeal.Table

end
-- ==== Proof.Array.lean ====
/- What the kernel's output array holds: block by block what each point writes, and so at every index. -/
module

public import proofs.«01_k».proof.Proof.Gen.KernelIdeal.Frame
public import Idealize.ShloMosaic.Lib.Pointwise
public import Idealize.ShloMosaic.Lib.Pipeline.Value
public import proofs.«01_k».proof.Proof.Block
public import proofs.«01_k».proof.Proof.Table

@[expose] public section

set_option maxRecDepth 16384

noncomputable section

namespace Cert.KernelIdeal.Array

open Idealize.ShloMosaic Idealize.ShloMosaic.TcCoe Idealize.ShloMosaic.Tactic Cert.KernelIdeal Cert.KernelIdeal.Gen
open Idealize.SL.Sem
open Idealize.ShloMosaic.Pipeline (Dat)

variable {F : FTy → Type} [FloatOps F] [Named F]
variable (m : (ℓ : Loc nD τ sig) → Buf (Elt F) ℓ) (c : Dev nD)

/-- A whole block of three axes starts at zero. -/
theorem zero3 : (![0, 0, 0] : Fin 3 → ℕ) = fun _ => 0 := by funext a; fin_cases a <;> rfl
/-- A whole block of two axes starts at zero. -/
theorem zero2 : (![0, 0] : Fin 2 → ℕ) = fun _ => 0 := by funext a; fin_cases a <;> rfl

/-- The body's value depends on what it reads only. -/
theorem body_congr {a a' b b' d d' g g' : F .f32} {x x' : Vec F S512x16x128 .f32} {y y' : Vec F S128x256 .f32} (e : F .f32)
    (ha : a = a') (hb : b = b') (hd : d = d') (hg : g = g') (hx : x = x') (hy : y = y') :
    k0_pay1 a b d g (k0_pay2 x) (k0_pay3 x y) e = k0_pay1 a' b' d' g' (k0_pay2 x') (k0_pay3 x' y') e := by
  rw [ha, hb, hd, hg, hx, hy]

/-- What a point leaves in its output block: the body's value of its parameters, its samples and the table. -/
theorem outs_eq (t : Fin cfg0.N) : outsAt0 m c t
    = k0_pay1 ((iblk m c 0 t : Vec F S4 .f32) (ix1 0)) ((iblk m c 0 t : Vec F S4 .f32) (ix1 1))
        ((iblk m c 0 t : Vec F S4 .f32) (ix1 2)) ((iblk m c 0 t : Vec F S4 .f32) (ix1 3)) (k0_pay2 (iblk m c 1 t))
        (k0_pay3 (iblk m c 1 t) (iblk m c 2 t)) (Scalar.ofBits .f32 0x3089705F#32) := by
  unfold outsAt0 out0_A_3
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread]
  refine (View.canon_unit_zero zero3 _ _).trans (body_congr _ ?_ ?_ ?_ ?_ (View.ld_unit_zero zero3 _ _) (View.ld_unit_zero zero2 _ _))
  all_goals exact congrArg (iblk m c 0 t : Vec F S4 .f32) (by funext a; fin_cases a; rfl)

/-- The output window's blocks do not meet. -/
theorem disjoint_blocks : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h =>
    hne ((by decide +kernel : ∀ t t' : Fin grid0.N, win0_3.index t = win0_3.index t' → t = t') t t' h)

/-- Every point reads the same parameters. -/
theorem index0 : ∀ t : Fin cfg0.N, win0_0.index t (0 : Fin 1) = 0 :=
  (by decide +kernel : ∀ t : Fin grid0.N, _)
/-- A point reads the block of rows that has its number. -/
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
/-- Every point reads the whole table. -/
theorem index2 : ∀ t : Fin cfg0.N, win0_2.index t (0 : Fin 2) = 0 ∧ win0_2.index t (1 : Fin 2) = 0 :=
  (by decide +kernel : ∀ t : Fin grid0.N, _)
/-- A point writes the block of rows that has its number. -/
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Point `t`'s output block is rows `512·t` to `512·t + 511`. -/
theorem emb3 (t : Fin cfg0.N) (r : Fin 512) (k : Fin 16) (l : Fin 128) (h : 512 * t.val + r.val < 16384) :
    ((cfg0.win 3).blk t).view.emb (ix3 r k l : S512x16x128.Idx) = (ix3 ⟨512 * t.val + r.val, h⟩ k l : S16384x16x128.Idx) := by
  obtain ⟨e0, e1, e2⟩ := index3 t
  funext a; apply Fin.ext
  match a with
  | ⟨0, _⟩ => show win0_3.index t (0 : Fin 3) * 512 + 1 * r.val = 512 * t.val + r.val; omega
  | ⟨1, _⟩ => show win0_3.index t (1 : Fin 3) * 16 + 1 * k.val = k.val; omega
  | ⟨2, _⟩ => show win0_3.index t (2 : Fin 3) * 128 + 1 * l.val = l.val; omega

/-- Point `t`'s samples are the same rows. -/
theorem samples_at (t : Fin cfg0.N) (r : Fin 512) (k : Fin 16) (l : Fin 128) (h : 512 * t.val + r.val < 16384) :
    (iblk m c 1 t : Vec F S512x16x128 .f32) (ix3 r k l) = (V m c main_v0 : Vec F S16384x16x128 .f32) (ix3 ⟨512 * t.val + r.val, h⟩ k l) := by
  obtain ⟨e0, e1, e2⟩ := index1 t
  refine congrArg (V m c main_v0 : Vec F S16384x16x128 .f32) ?_
  funext a; apply Fin.ext
  match a with
  | ⟨0, _⟩ => show win0_1.index t (0 : Fin 3) * 512 + 1 * r.val = 512 * t.val + r.val; omega
  | ⟨1, _⟩ => show win0_1.index t (1 : Fin 3) * 16 + 1 * k.val = k.val; omega
  | ⟨2, _⟩ => show win0_1.index t (2 : Fin 3) * 128 + 1 * l.val = l.val; omega

/-- Every point's parameters are all of them. -/
theorem params_whole (t : Fin cfg0.N) : (iblk m c 0 t : Vec F S4 .f32) = (V m c main_v12 : Vec F S4 .f32) := by
  have e0 := index0 t
  funext j
  refine congrArg (V m c main_v12 : Vec F S4 .f32) ?_
  funext a; apply Fin.ext
  match a with
  | ⟨0, _⟩ => show win0_0.index t (0 : Fin 1) * 4 + 1 * (j 0).val = (j 0).val; omega

/-- Every point's table is the whole table. -/
theorem table_whole (t : Fin cfg0.N) : (iblk m c 2 t : Vec F S128x256 .f32) = (V m c main_v46 : Vec F S128x256 .f32) := by
  obtain ⟨e0, e1⟩ := index2 t
  funext j
  refine congrArg (V m c main_v46 : Vec F S128x256 .f32) ?_
  funext a; apply Fin.ext
  match a with
  | ⟨0, _⟩ => show win0_2.index t (0 : Fin 2) * 128 + 1 * (j 0).val = (j 0).val; omega
  | ⟨1, _⟩ => show win0_2.index t (1 : Fin 2) * 256 + 1 * (j 1).val = (j 1).val; omega

/-- The array at an index of block `t` is what point `t` left there. -/
theorem array_at (t : Fin cfg0.N) (r : Fin 512) (k : Fin 16) (l : Fin 128) (h : 512 * t.val + r.val < 16384) :
    ((dats m 0 c).arrAt 3 cfg0.N : Vec F S16384x16x128 .f32) (ix3 ⟨512 * t.val + r.val, h⟩ k l) = outsAt0 m c t (ix3 r k l) := by
  have e := (dats m 0 c).arrAt_emb_eq_flushed 3 disjoint_blocks t (flush0_3 t) (ix3 r k l : S512x16x128.Idx)
  rw [emb3 t r k l h] at e
  refine e.trans ?_
  show (dats m 0 c).after 3 t (ix3 r k l : S512x16x128.Idx) = _
  rw [after0_3]

end Cert.KernelIdeal.Array

end
-- ==== Proof.Kernel.lean ====
/- What the kernel computes: its run, and its result at an index as the compression of a sample by its smoothed energy. -/
module

public import proofs.«01_k».proof.Proof.Array
public import Idealize.ShloMosaic.Lib.StableHlo.RunRead

@[expose] public section

set_option maxRecDepth 16384

noncomputable section

namespace Cert.KernelIdeal.Result

open Idealize.ShloMosaic Idealize.ShloMosaic.TcCoe Idealize.ShloMosaic.StableHlo Cert.KernelIdeal Cert.KernelIdeal.Gen
open Idealize.SL.Sem Cert.Smoothing Cert.Scalars

section Run

variable {F : FTy → Type} [FloatOps F] [Named F]
variable (m : (ℓ : Loc nD τ sig) → Buf (Elt F) ℓ) (ρ : Dev nD → PrngReg)

/-- The result: the output array, laid out as the samples are. -/
abbrev out (c : Dev nD) : Vec F S64x256x2048x1 .f32 :=
  shapeCast S64x256x2048x1 ((dats m 0 c).arrAt 3 cfg0.N : Vec F S16384x16x128 .f32) shapeCasts_S16384x16x128_S64x256x2048x1

/-- The operations after the region leave it in the returned buffer. -/
theorem tail_out (c : Dev nD) :
    Pipeline.afterTail₀ cfgs (dats m) 0 (V0 m) [hostOps1] c main_v48 = out m c := by
  unfold Pipeline.afterTail₀
  simp only [List.flatten_cons, List.flatten_nil, List.append_nil]
  after_reads_simp
  funext i
  exact congrFun (congrArg (fun A : Vec F S16384x16x128 .f32 => shapeCast S64x256x2048x1 A shapeCasts_S16384x16x128_S64x256x2048x1)
    (Pipeline.withArrays_arr spec0 (by decide) c (V0 m c) (fun w => (dats m 0 c).arrAt w (cfgs 0).N) 3)) i

/-- The run: the result, and the arguments unchanged. -/
theorem run : θ_run defs (onTc (τ := τ) (main (F := F))) ⟨m, fun _ => 0, ρ⟩ (fun r => ∀ c : Dev nD,
      r.2.mem ((c.tc : Thread nD τ).loc main_v48) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v48 (Pipeline.mem_restRefs_of main_v48 (by decide) (by decide))).trans (tail_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Run

section Value

variable (m : (ℓ : Loc nD τ sig) → Buf (Elt Ideal) ℓ) (c : Dev nD)

/-- The samples, as launched. -/
abbrev samples : FVec Ideal S64x256x2048x1 .f32 := m (c, Proc.devRef .tc main_arg0)

/-- What the array holds in row `256·b + f`, chunk `k`, lane `l`, when channel `(b, f)` is the finite sequence `X`. -/
theorem array_value (b : Fin 64) (f : Fin 256) (k : Fin 16) (l : Fin 128) (X : ℕ → ℝ)
    (hX : ∀ t : Fin 2048, samples m c (ix4 b f t 0) = (X t : EReal)) :
    ((dats m 0 c).arrAt 3 cfg0.N : FVec Ideal S16384x16x128 .f32) (ix3 ⟨256 * b + f, by omega⟩ k l)
      = pcenLog (X (128 * k + l)) (smooth X (128 * k + l)) (Table.arg1 m c (ix1 0)) (Table.arg2 m c (ix1 0)) (Table.arg3 m c (ix1 0)) := by
  obtain ⟨h0, h1, h2, h3⟩ := Table.params_at m c
  have hrow : 512 * ((256 * b.val + f.val) / 512) + (256 * b.val + f.val) % 512 = 256 * b.val + f.val := Nat.div_add_mod _ _
  have hlt : (256 * b.val + f.val) / 512 < cfg0.N := by
    show _ < grid0.N
    rw [show grid0.N = 32 from by decide]; omega
  have e := Array.array_at m c ⟨(256 * b.val + f.val) / 512, hlt⟩ ⟨(256 * b.val + f.val) % 512, Nat.mod_lt _ (by omega)⟩ k l (by
    show 512 * ((256 * b.val + f.val) / 512) + (256 * b.val + f.val) % 512 < 16384
    omega)
  have hx : ∀ (k : Fin 16) (l : Fin 128), (iblk m c 1 ⟨(256 * b.val + f.val) / 512, hlt⟩ : FVec Ideal S512x16x128 .f32)
      (ix3 ⟨(256 * b.val + f.val) % 512, Nat.mod_lt _ (by omega)⟩ k l) = (X (128 * k + l) : EReal) := by
    intro k l
    rw [Array.samples_at m c _ _ k l (by
      show 512 * ((256 * b.val + f.val) / 512) + (256 * b.val + f.val) % 512 < 16384
      omega)]
    simp only [hrow]
    rw [← hX ⟨128 * k + l, by omega⟩]
    exact Table.rows_at m c b f k l
  simp only [hrow] at e
  rw [e, Array.outs_eq, Array.params_whole, Array.table_whole]
  refine (Block.stored_at _ _ _ _ _ _ _ k l).trans ?_
  rw [Block.smooth_at _ _ _ k l X hx (fun j => Table.table_scan m c j l) (fun j => Table.table_carry m c j l), hx k l]
  simp only [Table.params] at h0 h1 h2 h3
  rw [h0, h1, h2, h3]
  rfl

/-- The rows of chunks laid out as the samples are, at an index. -/
theorem laid_out (A : FVec Ideal S16384x16x128 .f32) (b : Fin 64) (f : Fin 256) (t : Fin 2048) :
    (shapeCast S64x256x2048x1 A shapeCasts_S16384x16x128_S64x256x2048x1 : FVec Ideal S64x256x2048x1 .f32) (ix4 b f t 0)
      = A (ix3 ⟨256 * b + f, by omega⟩ ⟨t / 128, by omega⟩ ⟨t % 128, Nat.mod_lt _ (by omega)⟩) := by
  pointwise
  simp only [Nat.mul_comm 256]

/-- The result at sample `t` of channel `(b, f)`. -/
theorem result (b : Fin 64) (f : Fin 256) (t : Fin 2048) (X : ℕ → ℝ)
    (hX : ∀ t : Fin 2048, samples m c (ix4 b f t 0) = (X t : EReal)) :
    (out m c : FVec Ideal S64x256x2048x1 .f32) (ix4 b f t 0)
      = pcenLog (X t) (smooth X t) (Table.arg1 m c (ix1 0)) (Table.arg2 m c (ix1 0)) (Table.arg3 m c (ix1 0)) := by
  have e := array_value m c b f ⟨t.val / 128, by omega⟩ ⟨t.val % 128, Nat.mod_lt _ (by omega)⟩ X hX
  have ht : 128 * (t.val / 128) + t.val % 128 = t.val := Nat.div_add_mod _ _
  simp only [ht] at e
  exact (laid_out _ b f t).trans e

end Value

end Cert.KernelIdeal.Result

end
-- ==== Proof.Reference.lean ====
/- What the reference computes: its loop walks the smoother one sample at a time, keeping every value, and its last
   operations compress each sample by the smoothed energy. -/
module

public import proofs.«01_k».proof.Proof.Gen.ReferenceIdeal.Run
public import Idealize.ShloMosaic.Lib.Pointwise
public import Idealize.ShloMosaic.Lib.DynamicIndex
public import Idealize.ShloMosaic.Lib.Pipeline.Value
public import proofs.«01_k».proof.Proof.Scalars

@[expose] public section

set_option maxRecDepth 16384

noncomputable section

namespace Cert.ReferenceIdeal.Value

open Idealize.ShloMosaic Idealize.ShloMosaic.StableHlo Cert.ReferenceIdeal Cert.ReferenceIdeal.Gen
open Idealize.SL.Sem Cert.Smoothing Cert.Scalars

/-! ## What the loop does not touch -/

section Kept

variable {F : FTy → Type} [FloatOps F] (m : (ℓ : Loc nD τ sig) → Buf (Elt F) ℓ) (ρ : Dev nD → PrngReg)

/-- A buffer that no operation of the loop writes is, at every trip, what it was at the loop's entry. -/
theorem atK_kept (c : Dev nD) (r : Ref sig .tc) (hc : r ∉ condOps_W) (h0 : r ∉ while0Ops0_W) (h1 : r ∉ while0Ops0_1_W)
    (h2 : r ∉ while0Ops0_2_W) (h3 : r ∉ while0Ops0_3_W) :
    ∀ k, atK m k c (Proc.devRef .tc r) = entryContents preI m c (Proc.devRef .tc r)
  | 0 => rfl
  | k + 1 => by
    rw [show atK m (k + 1) c = afterL bodyI (after condOps (atK m k c)) from rfl]
    simp only [bodyI, afterL_cons, afterL_nil]
    rw [after_of_writes_sub _ _ while0Ops0_3_writes h3, after_of_writes_sub _ _ while0Ops0_2_writes h2,
      after_of_writes_sub _ _ while0Ops0_1_writes h1, after_of_writes_sub _ _ while0Ops0_writes h0,
      after_of_writes_sub _ _ condOps_writes hc, atK_kept c r hc h0 h1 h2 h3 k]
    rfl

/-- The contents on which the operations after the loop run. -/
abbrev exitContents (c : Dev nD) : Valuation τ sig (Elt F) := after condOps (atK m 2047 c)

/-- A buffer that the loop does not touch leaves it as it entered. -/
theorem exit_kept (c : Dev nD) (r : Ref sig .tc) (hc : r ∉ condOps_W) (h0 : r ∉ while0Ops0_W) (h1 : r ∉ while0Ops0_1_W)
    (h2 : r ∉ while0Ops0_2_W) (h3 : r ∉ while0Ops0_3_W) :
    exitContents m c (Proc.devRef .tc r) = entryContents preI m c (Proc.devRef .tc r) := by
  rw [exitContents, after_of_writes_sub _ _ condOps_writes hc, atK_kept m c r hc h0 h1 h2 h3]

/-- The reference each operation after the loop writes, in order. -/
abbrev hostOps0_1_W : List (Ref sig .tc) := [main_v9, main_v10, main_v11, main_cst_2, main_v12, main_v13, main_v14, main_v15,
  main_v16, main_v17, main_v18, main_v19, main_v20, main_v21, main_v22, main_v23, main_v24, main_v25, main_v26, main_v27]
theorem hostOps0_1_writes : (hostOps0_1 : List (HloOp τ sig (Elt F))).Forall fun op =>
    op.writes ⊆ (hostOps0_1_W.map (Proc.devRef (τ := τ) .tc)).toFinset :=
  StableHlo.forall_writes_sub_of_map rfl

/-- An argument is written by no operation before the loop. -/
theorem entry_arg (c : Dev nD) (r : Ref sig .tc) (h : r ∉ hostOps0_W) :
    entryContents preI m c (Proc.devRef .tc r) = m (c, Proc.devRef .tc r) := by
  simp only [entryContents, preI, afterL_cons, afterL_nil]
  exact after_of_writes_sub _ _ hostOps0_writes h

/-- An argument ends as launched. -/
theorem final_arg (c : Dev nD) (r : Ref sig .tc) (h : r ∉ hostOps0_W) (hc : r ∉ condOps_W) (h0 : r ∉ while0Ops0_W)
    (h1 : r ∉ while0Ops0_1_W) (h2 : r ∉ while0Ops0_2_W) (h3 : r ∉ while0Ops0_3_W) (h4 : r ∉ hostOps0_1_W) :
    finalContents condOps preI bodyI postI 2047 m c (Proc.devRef .tc r) = m (c, Proc.devRef .tc r) := by
  simp only [finalContents, postI, afterL_cons, afterL_nil]
  rw [after_of_writes_sub _ _ hostOps0_1_writes h4]
  exact (exit_kept m c r hc h0 h1 h2 h3).trans (entry_arg m c r h)

/-- The run with its result at the fold of the operations and its arguments unchanged. -/
theorem run : θ_run (defs (F := F)) (onTc (τ := τ) (main (F := F))) ⟨m, fun _ => 0, ρ⟩ (fun r => ∀ c : Dev nD,
      r.2.mem ((c.tc : Thread nD τ).loc main_v27) = finalContents condOps preI bodyI postI 2047 m c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c main_v27 (by decide +kernel),
    (h c main_arg0 (by decide +kernel)).trans (final_arg m c main_arg0 (by decide +kernel) (by decide +kernel) (by decide +kernel) (by decide +kernel) (by decide +kernel) (by decide +kernel) (by decide +kernel)),
    (h c main_arg1 (by decide +kernel)).trans (final_arg m c main_arg1 (by decide +kernel) (by decide +kernel) (by decide +kernel) (by decide +kernel) (by decide +kernel) (by decide +kernel) (by decide +kernel)),
    (h c main_arg2 (by decide +kernel)).trans (final_arg m c main_arg2 (by decide +kernel) (by decide +kernel) (by decide +kernel) (by decide +kernel) (by decide +kernel) (by decide +kernel) (by decide +kernel)),
    (h c main_arg3 (by decide +kernel)).trans (final_arg m c main_arg3 (by decide +kernel) (by decide +kernel) (by decide +kernel) (by decide +kernel) (by decide +kernel) (by decide +kernel) (by decide +kernel))⟩)
    (run_fold m ρ)

/-- The frame: the arguments end unchanged, and no semaphore is declared, so every counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (run m ρ)

end Kept

/-! ## The smoother, sample by sample -/

/-- Sample `n` of channel `(b, f)`; zero past the last sample. -/
def sample (x : FVec Ideal S64x256x2048x1 .f32) (b : Fin 64) (f : Fin 256) (n : ℕ) : EReal :=
  if h : n < 2048 then x (ix4 b f ⟨n, h⟩ 0) else 0

/-- The smoother over the extended reals: the recurrence of `Smoothing.smooth`, at any samples. -/
def level (x : ℕ → EReal) : ℕ → EReal
  | 0 => s * x 0
  | n + 1 => q * level x n + s * x (n + 1)

/-- At finite samples it is the real smoother. -/
theorem level_coe (x : ℕ → ℝ) : ∀ n, level (fun n => (x n : EReal)) n = (smooth x n : EReal)
  | 0 => by rw [level, smooth, EReal.coe_mul]
  | n + 1 => by rw [level, level_coe x n, smooth, EReal.coe_add, EReal.coe_mul, EReal.coe_mul]

/-- Each of the 2047 later samples is a slice of the array that the loop reads. -/
theorem slicesAt (k : ℕ) (hk : k < 2047) : S2047x64x256x1.Slices ![k, 0, 0, 0] S1x64x256x1 :=
  ⟨rfl, fun a => by fin_cases a <;> simp <;> omega⟩

/-- One trip's new value: the smoothed past plus the weighted sample that the trip reads. -/
theorem trip_level (x : FVec Ideal S2047x64x256x1 .f32) (w : FVec Ideal S_ .f32) (M : FVec Ideal S64x256x1 .f32)
    (st : Fin 4 → Int) (b : Fin 64) (f : Fin 256) (k : ℕ) (hk : k < 2047) (hw : w ix0 = (s : EReal))
    (h : ∀ a, st a = ((![k, 0, 0, 0] : Fin 4 → ℕ) a : ℤ)) :
    (addf (mulf (broadcastInDim S64x256x1 ![] bcast_S_S64x256x1 (subf (constant S_ .f32 0x3F800000#32) w)) M)
      (mulf (broadcastInDim S64x256x1 ![] bcast_S_S64x256x1 w)
        (shapeCast S64x256x1 (Host.dynamicSlice S1x64x256x1 x st sliceFits_S2047x64x256x1_S1x64x256x1)
          shapeCasts_S1x64x256x1_S64x256x1)) : FVec Ideal S64x256x1 .f32) (ix3 b f 0)
      = q * M (ix3 b f 0) + s * x (ix4 ⟨k, hk⟩ b f 0) := by
  rw [Host.dynamicSlice_eq_extractStridedSlice _ _ _ ![k, 0, 0, 0] _ (slicesAt k hk) h]
  pointwise
  rw [hw, ← EReal.coe_one, one_sub_weight]

/-- One trip's row of the kept values: the trip's own row is the new value, every other row stands. -/
theorem trip_row (x : FVec Ideal S2047x64x256x1 .f32) (w : FVec Ideal S64x256x1 .f32) (st : Fin 4 → Int) (n : Fin 2047)
    (b : Fin 64) (f : Fin 256) (k : ℕ) (hk : k < 2047) (h : ∀ a, st a = ((![k, 0, 0, 0] : Fin 4 → ℕ) a : ℤ)) :
    (Host.dynamicUpdateSlice x (broadcastInDim S1x64x256x1 ![1, 2, 3] bcast_S64x256x1_S1x64x256x1_1_2_3 w) st
      updateFits_S2047x64x256x1_S1x64x256x1 : FVec Ideal S2047x64x256x1 .f32) (ix4 n b f 0)
      = if n.val = k then w (ix3 b f 0) else x (ix4 n b f 0) := by
  rw [Host.dynamicUpdateSlice_eq_updateSlice (adj := ![k, 0, 0, 0]) (h' := slicesAt k hk)
    (hadj := fun a => by have := (slicesAt k hk).2 a; rw [h a]; omega)]
  pointwise
  by_cases e : n.val = k
  · rw [if_pos e, dif_pos (by omega)]
  · rw [if_neg e, dif_neg (by omega)]

/-- The trip's counter, read as an integer. -/
theorem counter (k : ℕ) (hk : k < 2047) : (Scf.iv 0#32 1#32 k).toInt = (k : ℤ) := by
  have e : Scf.iv 0#32 1#32 k = BitVec.ofNat 32 k := by
    simp [Scf.iv]
  rw [e, BitVec.toInt_eq_toNat_of_lt (by rw [BitVec.toNat_ofNat]; omega), BitVec.toNat_ofNat, Nat.mod_eq_of_lt (by omega)]

section Loop

variable (m : (ℓ : Loc nD τ sig) → Buf (Elt Idealize.ShloMosaic.Ideal) ℓ) (c : Dev nD)

/-- The samples, as launched. -/
abbrev samples : FVec Idealize.ShloMosaic.Ideal S64x256x2048x1 .f32 := m (c, Proc.devRef .tc main_arg0)

/-- On entry to the loop the weight is 15 over 1000. -/
theorem entry_weight : (entryContents preI m c (Proc.devRef .tc main_v8_1) : FVec Idealize.ShloMosaic.Ideal S_ .f32) ix0 = (s : EReal) := by
  simp only [entryContents, preI, afterL_cons, afterL_nil]
  after_reads_simp
  rw [id]
  pointwise
  rw [bits_15, bits_1000, weight]

/-- On entry the loop holds the samples after the first. -/
theorem entry_rest (n : Fin 2047) (b : Fin 64) (f : Fin 256) :
    (entryContents preI m c (Proc.devRef .tc main_v8_0) : FVec Idealize.ShloMosaic.Ideal S2047x64x256x1 .f32) (ix4 n b f 0)
      = sample (samples m c) b f (n + 1) := by
  simp only [entryContents, preI, afterL_cons, afterL_nil]
  after_reads_simp
  rw [sample, dif_pos (by omega), id]
  pointwise
  simp only [Nat.add_comm 1]

/-- On entry the carried level is that of the first sample. -/
theorem entry_first (b : Fin 64) (f : Fin 256) :
    (entryContents preI m c (Proc.devRef .tc main_v8_3) : FVec Idealize.ShloMosaic.Ideal S64x256x1 .f32) (ix3 b f 0)
      = level (sample (samples m c) b f) 0 := by
  simp only [entryContents, preI, afterL_cons, afterL_nil]
  after_reads_simp
  rw [level, sample, dif_pos (by omega), id]
  pointwise
  rw [bits_15, bits_1000, weight]

/-- The first level is kept beside the loop as well. -/
theorem entry_first' : (entryContents preI m c (Proc.devRef .tc main_v5) : FVec Idealize.ShloMosaic.Ideal S64x256x1 .f32)
      = entryContents preI m c (Proc.devRef .tc main_v8_3) := by
  simp only [entryContents, preI, afterL_cons, afterL_nil]
  after_reads_simp
  rfl

/-- What a trip finds in a carried buffer is what the trip before left. -/
theorem cond_same (k : ℕ) (r : Ref sig .tc) (hr : r ∈ carriedRefs) :
    after condOps (atK m k c) (Proc.devRef .tc r) = atK m k c (Proc.devRef .tc r) :=
  cond_keeps (atK m k c) r hr

/-- The loop leaves the samples that it reads. -/
theorem atK_rest (k : ℕ) : atK m k c (Proc.devRef .tc main_v8_0) = entryContents preI m c (Proc.devRef .tc main_v8_0) := by
  induction k with
  | zero => rfl
  | succ k ih =>
    rw [show atK m (k + 1) c = afterL bodyI (after condOps (atK m k c)) from rfl]
    exact (trip_main_v8_0 _).trans ((cond_same m c k _ (by decide)).trans ih)

/-- The loop leaves the weight. -/
theorem atK_weight (k : ℕ) : atK m k c (Proc.devRef .tc main_v8_1) = entryContents preI m c (Proc.devRef .tc main_v8_1) := by
  induction k with
  | zero => rfl
  | succ k ih =>
    rw [show atK m (k + 1) c = afterL bodyI (after condOps (atK m k c)) from rfl]
    exact (trip_main_v8_1 _).trans ((cond_same m c k _ (by decide)).trans ih)

/-- Where a trip starts reading and writing: the row of its counter. -/
theorem start (k : ℕ) (hk : k < 2047) (a : Fin 4) :
    (((![after condOps (atK m k c) (Proc.devRef .tc main_v8_2), constantI S_ 32 0#32, constantI S_ 32 0#32, constantI S_ 32 0#32]
        : Fin 4 → IVec S_ 32) a) (Shape.Idx.first h_S_)).toInt = ((![k, 0, 0, 0] : Fin 4 → ℕ) a : ℤ) := by
  rw [cond_same m c k main_v8_2 (by decide), atK_ctr]
  fin_cases a
  · exact counter k hk
  · rfl
  · rfl
  · rfl

/-- The value that trip `k` computes, from the value that it finds. -/
theorem trip_value (b : Fin 64) (f : Fin 256) (k : ℕ) (hk : k < 2047)
    (ih : (atK m k c (Proc.devRef .tc main_v8_3) : FVec Idealize.ShloMosaic.Ideal S64x256x1 .f32) (ix3 b f 0)
      = level (sample (samples m c) b f) k) :
    (res_main_while0b_v34 (after condOps (atK m k c)) : FVec Idealize.ShloMosaic.Ideal S64x256x1 .f32) (ix3 b f 0)
      = level (sample (samples m c) b f) (k + 1) := by
  unfold res_main_while0b_v34
  refine (trip_level _ _ _ _ b f k hk ?_ (start m c k hk)).trans ?_
  · rw [cond_same m c k main_v8_1 (by decide), atK_weight]
    exact entry_weight m c
  · rw [cond_same m c k main_v8_3 (by decide), cond_same m c k main_v8_0 (by decide), atK_rest, ih, level]
    rw [entry_rest m c ⟨k, hk⟩ b f]

/-- After `k` trips the carried value is the smoother at sample `k`. -/
theorem atK_level (b : Fin 64) (f : Fin 256) (k : ℕ) (hk : k ≤ 2047) :
    (atK m k c (Proc.devRef .tc main_v8_3) : FVec Idealize.ShloMosaic.Ideal S64x256x1 .f32) (ix3 b f 0)
      = level (sample (samples m c) b f) k := by
  induction k with
  | zero => exact entry_first m c b f
  | succ k ih =>
    rw [show atK m (k + 1) c = afterL bodyI (after condOps (atK m k c)) from rfl, trip_main_v8_3]
    exact trip_value m c b f k (by omega) (ih (by omega))

/-- After `k` trips row `n < k` of the kept values is the smoother at sample `n + 1`. -/
theorem atK_kept_levels (b : Fin 64) (f : Fin 256) (n : Fin 2047) (k : ℕ) (hk : k ≤ 2047) (hn : n.val < k) :
    (atK m k c (Proc.devRef .tc main_v8_4) : FVec Idealize.ShloMosaic.Ideal S2047x64x256x1 .f32) (ix4 n b f 0)
      = level (sample (samples m c) b f) (n + 1) := by
  induction k with
  | zero => omega
  | succ k ih =>
    rw [show atK m (k + 1) c = afterL bodyI (after condOps (atK m k c)) from rfl, trip_main_v8_4]
    refine (trip_row _ _ _ n b f k (by omega) (start m c k (by omega))).trans ?_
    by_cases e : n.val = k
    · rw [if_pos e, trip_value m c b f k (by omega) (atK_level m c b f k (by omega)), e]
    · rw [if_neg e, cond_same m c k main_v8_4 (by decide)]
      exact ih (by omega) (by omega)

/-! ## The result -/

/-- After the loop the first level is still there. -/
theorem exit_first (b : Fin 64) (f : Fin 256) :
    (exitContents m c (Proc.devRef .tc main_v5) : FVec Idealize.ShloMosaic.Ideal S64x256x1 .f32) (ix3 b f 0)
      = level (sample (samples m c) b f) 0 := by
  rw [exit_kept m c main_v5 (by decide +kernel) (by decide +kernel) (by decide +kernel) (by decide +kernel) (by decide +kernel),
    entry_first' m c]
  exact entry_first m c b f

/-- After the loop its output holds every later level. -/
theorem exit_levels (n : Fin 2047) (b : Fin 64) (f : Fin 256) :
    (exitContents m c (Proc.devRef .tc main_v8_4) : FVec Idealize.ShloMosaic.Ideal S2047x64x256x1 .f32) (ix4 n b f 0)
      = level (sample (samples m c) b f) (n + 1) := by
  rw [exitContents, cond_same m c 2047 main_v8_4 (by decide)]
  exact atK_kept_levels m c b f n 2047 le_rfl n.2

/-- An argument, as the operations after the loop find it, is as launched. -/
theorem exit_arg (r : Ref sig .tc) (h : r ∉ hostOps0_W) (hc : r ∉ condOps_W) (h0 : r ∉ while0Ops0_W)
    (h1 : r ∉ while0Ops0_1_W) (h2 : r ∉ while0Ops0_2_W) (h3 : r ∉ while0Ops0_3_W) :
    exitContents m c (Proc.devRef .tc r) = m (c, Proc.devRef .tc r) :=
  (exit_kept m c r hc h0 h1 h2 h3).trans (entry_arg m c r h)

/-- The result at sample `t` of channel `(b, f)`: the sample compressed by the smoother's value there. -/
theorem result (b : Fin 64) (f : Fin 256) (t : Fin 2048) :
    (finalContents condOps preI bodyI postI 2047 m c (Proc.devRef .tc main_v27) : FVec Idealize.ShloMosaic.Ideal S64x256x2048x1 .f32)
        (ix4 b f t 0)
      = pcen (samples m c (ix4 b f t 0)) (level (sample (samples m c) b f) t)
          ((m (c, Proc.devRef .tc main_arg1) : FVec Idealize.ShloMosaic.Ideal S1 .f32) (ix1 0))
          ((m (c, Proc.devRef .tc main_arg2) : FVec Idealize.ShloMosaic.Ideal S1 .f32) (ix1 0))
          ((m (c, Proc.devRef .tc main_arg3) : FVec Idealize.ShloMosaic.Ideal S1 .f32) (ix1 0)) := by
  have ha0 := exit_arg m c main_arg0 (by decide +kernel) (by decide +kernel) (by decide +kernel) (by decide +kernel) (by decide +kernel) (by decide +kernel)
  have ha1 := exit_arg m c main_arg1 (by decide +kernel) (by decide +kernel) (by decide +kernel) (by decide +kernel) (by decide +kernel) (by decide +kernel)
  have ha2 := exit_arg m c main_arg2 (by decide +kernel) (by decide +kernel) (by decide +kernel) (by decide +kernel) (by decide +kernel) (by decide +kernel)
  have ha3 := exit_arg m c main_arg3 (by decide +kernel) (by decide +kernel) (by decide +kernel) (by decide +kernel) (by decide +kernel) (by decide +kernel)
  have h5 := exit_first m c b f
  have h84 := exit_levels m c (b := b) (f := f)
  rw [show finalContents condOps preI bodyI postI 2047 m c = afterL postI (exitContents m c) from rfl]
  generalize exitContents m c = X at *
  simp only [postI, afterL_cons, afterL_nil]
  after_reads_simp
  rw [ha0, ha1, ha2, ha3]
  pointwise
  have e9 : (upto hostOps0_1 X 1 (Proc.devRef .tc main_v9) : FVec Idealize.ShloMosaic.Ideal S1x64x256x1 .f32)
      = broadcastInDim S1x64x256x1 ![1, 2, 3] bcast_S64x256x1_S1x64x256x1_1_2_3 (X (Proc.devRef .tc main_v5)) := by
    simp only [upto, hostOps0_1, List.take_succ_cons, List.take_zero]
    after_results
  have e84 : upto hostOps0_1 X 1 (Proc.devRef .tc main_v8_4) = X (Proc.devRef .tc main_v8_4) := by
    simp only [upto, hostOps0_1, List.take_succ_cons, List.take_zero]
    after_results
  rw [e9, e84, pcen]
  by_cases ht : t.val < 1
  · rw [dif_pos ht]
    pointwise
    rw [h5, show t.val = 0 by omega]
    rfl
  · rw [dif_neg ht, h84]
    simp only [show t.val - 1 + 1 = t.val by omega]
    rfl

end Loop

end Cert.ReferenceIdeal.Value

end
-- ==== Proof.Energies.lean ====
/- What the precondition says of the arguments, element by element. -/
module

public import proofs.«01_k».proof.Pre_energies
public import Idealize.ShloMosaic.Lib.ReduceAll
public import Idealize.ShloMosaic.Lib.Pointwise
public import Idealize.ShloMosaic.PureOps.Ideal

@[expose] public section

noncomputable section

namespace Cert.Pre_energies.Read

open Idealize.ShloMosaic Cert.Pre_energies

/-- The shapes the precondition's operations take fit one another. -/
instance facts : Facts where
  bcast_S_S64x256x2048x1 := by decide
  reducesTo_S64x256x2048x1_S_d0_1_2_3 := by decide
  h_S_ := by decide
  bcast_S_S1 := by decide
  reducesTo_S1_S_d0 := by decide

/-- The rank 0 shape has one index. -/
instance : Subsingleton S_.Idx := ⟨fun _ _ => funext fun d => d.elim0⟩

/-- The word the precondition prints for infinity. -/
theorem bits_top : Ideal.ofBits .f32 0x7F800000#32 = ⊤ := by simp [Ideal.ofBits, Ideal.ieee]

/-- The word it prints for minus infinity. -/
theorem bits_bot : Ideal.ofBits .f32 0xFF800000#32 = ⊥ := by simp [Ideal.ofBits, Ideal.ieee]

/-- The word it prints for zero. -/
theorem bits_zero : Ideal.ofBits .f32 0x00000000#32 = 0 := by simp [Ideal.ofBits, Ideal.ieee]

/-- A comparison that answers 1 holds. -/
theorem of_oge {a b : EReal} (h : Ideal.cmp .oge a b = 1#1) : b ≤ a := by
  by_contra hn
  simp [Ideal.cmp, hn] at h

/-- Less than, read as an inequality. -/
theorem of_olt {a b : EReal} (h : Ideal.cmp .olt a b = 1#1) : a < b := by
  by_contra hn
  simp [Ideal.cmp, hn] at h

/-- Greater than, read as an inequality. -/
theorem of_ogt {a b : EReal} (h : Ideal.cmp .ogt a b = 1#1) : b < a := by
  by_contra hn
  simp [Ideal.cmp, hn] at h

variable {x : FVec Ideal S64x256x2048x1 .f32} {alpha power bias : FVec Ideal S1 .f32}

/-- The precondition, read: every sample is a nonnegative number below infinity, the exponent `alpha` is finite, and the
    bias is positive. Nothing is asked of the power. -/
theorem energies (h : fn (F := Ideal) x alpha power bias = fun _ => 1#1) :
    (∀ i, (0 : EReal) ≤ x i ∧ (x i : EReal) < ⊤) ∧ ((⊥ : EReal) < alpha (ix1 0) ∧ (alpha (ix1 0) : EReal) < ⊤)
      ∧ (0 : EReal) < bias (ix1 0) := by
  have h0 := congrFun h (Shape.Idx.first (by decide))
  unfold fn fn_part1 at h0
  obtain ⟨h1, hb⟩ := IntOp.andi_eq_one.1 h0
  obtain ⟨hx, ha⟩ := IntOp.andi_eq_one.1 h1
  refine ⟨fun i => ?_, ?_, ?_⟩
  · obtain ⟨l, r⟩ := IntOp.andi_eq_one.1 (Host.reduce_andi_all _ _ _ _ _ hx i)
    exact ⟨bits_zero ▸ of_oge l, bits_top ▸ of_olt r⟩
  · obtain ⟨l, r⟩ := IntOp.andi_eq_one.1 (Host.reduce_andi_all _ _ _ _ _ ha (ix1 0))
    exact ⟨bits_bot ▸ of_ogt l, bits_top ▸ of_olt r⟩
  · exact bits_zero ▸ of_ogt (Host.reduce_andi_all _ _ _ _ _ hb (ix1 0))

end Cert.Pre_energies.Read

end
-- ==== Proof.Equation.lean ====
/- The equation: under the precondition the kernel's result is the reference's. -/
module

public import proofs.«01_k».proof.Defs
public import proofs.«01_k».proof.Proof.Kernel
public import proofs.«01_k».proof.Proof.Reference
public import proofs.«01_k».proof.Proof.Energies

@[expose] public section

set_option maxRecDepth 16384

noncomputable section

namespace Cert.Equation

open Idealize.ShloMosaic Idealize.ShloMosaic.TcCoe Idealize.SL.Sem Cert.Smoothing Cert.Scalars
open Cert.Pre_energies (S64x256x2048x1 S1)

/-- An index of the samples' shape is a channel `(b, f)` and a sample `t`. -/
theorem index (i : S64x256x2048x1.Idx) : ∃ (b : Fin 64) (f : Fin 256) (t : Fin 2048), i = ix4 b f t 0 := by
  refine ⟨i 0, i 1, i 2, funext fun d => ?_⟩
  fin_cases d
  · rfl
  · rfl
  · rfl
  · exact Fin.ext (by have h := (i 3).isLt; change (i 3).val < 1 at h; change (i 3).val = 0; omega)

/-- A channel's samples as reals. -/
def reals (x : FVec Ideal S64x256x2048x1 .f32) (b : Fin 64) (f : Fin 256) (n : ℕ) : ℝ :=
  (Cert.ReferenceIdeal.Value.sample x b f n : EReal).toReal

section Channel

variable {x : FVec Ideal S64x256x2048x1 .f32} (hx : ∀ i, (0 : EReal) ≤ x i ∧ (x i : EReal) < ⊤) (b : Fin 64) (f : Fin 256)
include hx

/-- Finite nonnegative samples are their reals. -/
theorem sample_eq (n : ℕ) : Cert.ReferenceIdeal.Value.sample x b f n = (reals x b f n : EReal) := by
  refine (EReal.coe_toReal ?_ ?_).symm
  all_goals unfold Cert.ReferenceIdeal.Value.sample; split
  · exact (hx _).2.ne
  · exact EReal.zero_ne_top
  · exact (lt_of_lt_of_le EReal.bot_lt_zero (hx _).1).ne'
  · exact EReal.bot_lt_zero.ne'

/-- They are nonnegative. -/
theorem reals_nonneg (n : ℕ) : 0 ≤ reals x b f n := by
  refine EReal.toReal_nonneg ?_
  unfold Cert.ReferenceIdeal.Value.sample
  split
  exacts [(hx _).1, le_rfl]

/-- The sample the programs read at `t` is the channel's real there. -/
theorem at_eq (t : Fin 2048) : (x (ix4 b f t 0) : EReal) = (reals x b f t : EReal) := by
  rw [← sample_eq hx b f t, Cert.ReferenceIdeal.Value.sample, dif_pos t.isLt]

end Channel

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The reference's result. -/
abbrev refOut : FVec Ideal S64x256x2048x1 .f32 :=
  StableHlo.finalContents Cert.ReferenceIdeal.Value.condOps Cert.ReferenceIdeal.Value.preI Cert.ReferenceIdeal.Value.bodyI
    Cert.ReferenceIdeal.Value.postI 2047 m' c (Proc.devRef .tc Cert.ReferenceIdeal.main_v27)

/-- From the same arguments, the energies finite and nonnegative, the exponent finite and the bias positive, the kernel
    and the reference compute the same array. -/
theorem equation
    (h : Cert.Pre_energies.fn (F := Ideal) (m (c, Proc.devRef .tc Cert.KernelIdeal.main_arg0))
      (m (c, Proc.devRef .tc Cert.KernelIdeal.main_arg1)) (m (c, Proc.devRef .tc Cert.KernelIdeal.main_arg2))
      (m (c, Proc.devRef .tc Cert.KernelIdeal.main_arg3)) = fun _ => 1#1)
    (e0 : (m' (c, Proc.devRef .tc Cert.ReferenceIdeal.main_arg0) : FVec Ideal S64x256x2048x1 .f32) = m (c, Proc.devRef .tc Cert.KernelIdeal.main_arg0))
    (e1 : (m' (c, Proc.devRef .tc Cert.ReferenceIdeal.main_arg1) : FVec Ideal S1 .f32) = m (c, Proc.devRef .tc Cert.KernelIdeal.main_arg1))
    (e2 : (m' (c, Proc.devRef .tc Cert.ReferenceIdeal.main_arg2) : FVec Ideal S1 .f32) = m (c, Proc.devRef .tc Cert.KernelIdeal.main_arg2))
    (e3 : (m' (c, Proc.devRef .tc Cert.ReferenceIdeal.main_arg3) : FVec Ideal S1 .f32) = m (c, Proc.devRef .tc Cert.KernelIdeal.main_arg3)) :
    refOut m' c = (Cert.KernelIdeal.Result.out m c : FVec Ideal S64x256x2048x1 .f32) := by
  obtain ⟨hx, ⟨ha, ha'⟩, hb⟩ := Cert.Pre_energies.Read.energies h
  replace hx : ∀ i, (0 : EReal) ≤ Cert.KernelIdeal.Result.samples m c i
    ∧ (Cert.KernelIdeal.Result.samples m c i : EReal) < ⊤ := hx
  funext i
  obtain ⟨b, f, t, rfl⟩ := index i
  obtain ⟨a, hA⟩ : ∃ a : ℝ, (Cert.KernelIdeal.Table.arg1 m c (ix1 0) : EReal) = a := ⟨_, (EReal.coe_toReal ha'.ne ha.ne').symm⟩
  rw [Cert.KernelIdeal.Result.result m c b f t (reals (Cert.KernelIdeal.Result.samples m c) b f) (at_eq hx b f), hA,
    pcenLog_eq (reals_nonneg hx b f t) (smooth_nonneg (reals_nonneg hx b f) t) hb]
  refine (Cert.ReferenceIdeal.Value.result m' c b f t).trans ?_
  have hs : Cert.ReferenceIdeal.Value.samples m' c = Cert.KernelIdeal.Result.samples m c := e0
  rw [hs, e1, e2, e3, at_eq hx b f t,
    show Cert.ReferenceIdeal.Value.sample (Cert.KernelIdeal.Result.samples m c) b f
        = fun n => ((reals (Cert.KernelIdeal.Result.samples m c) b f n : ℝ) : EReal) from funext (sample_eq hx b f),
    Cert.ReferenceIdeal.Value.level_coe]
  exact congrArg (fun y => pcen _ _ y _ _) hA

end Cert.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Equation

@[expose] public section

set_option exponentiation.threshold 4096

noncomputable section

namespace Cert.Proof

open Idealize.ShloMosaic Idealize.SL.Sem

/-- The four named constants are powers of the decay, and round to the literals the kernel printed. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-- The kernel and the reference, from the same arguments under the precondition, end with the same result. -/
theorem algebraic : Cert.algebraic_KernelIdeal_ReferenceIdeal_pre_energies (hKernelIdeal := Cert.KernelIdeal.Gen.facts)
    (hReferenceIdeal := Cert.ReferenceIdeal.Gen.facts) (hPre_energies := Cert.Pre_energies.Read.facts) :=
  fun m g m' g' hpre hargs =>
    ⟨fun c => Cert.KernelIdeal.Result.out m c, Cert.KernelIdeal.Result.run m g,
      (θ_run _ _ _).mono (fun _ h c => ⟨(h c).1.trans (Cert.Equation.equation m m' c (hpre c) (hargs c).1 (hargs c).2.1
        (hargs c).2.2.1 (hargs c).2.2.2), (h c).2⟩) (Cert.ReferenceIdeal.Value.run m' g')⟩

/-- Everything the certificate claims. -/
theorem claim : Cert.Claim :=
  ⟨Cert.Kernel.Gen.facts, Cert.KernelIdeal.Gen.facts, Cert.ReferenceIdeal.Gen.facts, Cert.Pre_energies.Read.facts,
    fun m g _ => Cert.Kernel.Gen.frame m g, fun m g _ => Cert.KernelIdeal.Gen.frame m g,
    fun m g _ => Cert.KernelIdeal.Gen.frame m g, fun m g _ => Cert.ReferenceIdeal.Value.frame m g,
    fun m g _ => Cert.ReferenceIdeal.Value.frame m g, preserves, algebraic⟩

end Cert.Proof

end
